-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_NormIdeal (m : (ℓ : Loc Cert.NormIdeal.nD Cert.NormIdeal.τ Cert.NormIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Qkv_QkvIdeal : Prop :=
  True

def algebraic_QkvIdeal_NormIdeal [hQkvIdeal : Cert.QkvIdeal.Facts] [hNormIdeal : Cert.NormIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.NormIdeal.nD Cert.NormIdeal.τ Cert.NormIdeal.sig) → Buf (Elt Ideal) ℓ) (g' : Dev Cert.NormIdeal.nD → PrngReg), Pre_QkvIdeal m →
    (∀ c : Dev Cert.QkvIdeal.nD,
      m' ((c.tc : Thread Cert.NormIdeal.nD Cert.NormIdeal.τ).loc Cert.NormIdeal.main_arg0) = m ((c.tc : Thread Cert.QkvIdeal.nD Cert.QkvIdeal.τ).loc Cert.QkvIdeal.main_arg0)
      ∧ m' ((c.tc : Thread Cert.NormIdeal.nD Cert.NormIdeal.τ).loc Cert.NormIdeal.main_arg1) = m ((c.tc : Thread Cert.QkvIdeal.nD Cert.QkvIdeal.τ).loc Cert.QkvIdeal.main_arg1)
      ∧ m' ((c.tc : Thread Cert.NormIdeal.nD Cert.NormIdeal.τ).loc Cert.NormIdeal.main_arg2) = m ((c.tc : Thread Cert.QkvIdeal.nD Cert.QkvIdeal.τ).loc Cert.QkvIdeal.main_arg2)
      ∧ m' ((c.tc : Thread Cert.NormIdeal.nD Cert.NormIdeal.τ).loc Cert.NormIdeal.main_arg3) = m ((c.tc : Thread Cert.QkvIdeal.nD Cert.QkvIdeal.τ).loc Cert.QkvIdeal.main_arg3)
      ∧ m' ((c.tc : Thread Cert.NormIdeal.nD Cert.NormIdeal.τ).loc Cert.NormIdeal.main_arg4) = m ((c.tc : Thread Cert.QkvIdeal.nD Cert.QkvIdeal.τ).loc Cert.QkvIdeal.main_arg4)) →
    ∃ (v0 : (c : Dev Cert.QkvIdeal.nD) → Buf (Elt Ideal) ((c.tc : Thread Cert.QkvIdeal.nD Cert.QkvIdeal.τ).loc Cert.QkvIdeal.main_v13_0)) (v1 : (c : Dev Cert.QkvIdeal.nD) → Buf (Elt Ideal) ((c.tc : Thread Cert.QkvIdeal.nD Cert.QkvIdeal.τ).loc Cert.QkvIdeal.main_v13_1)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v13_0) = v0 c
          ∧ r.2.mem ((c.tc : Thread Cert.QkvIdeal.nD Cert.QkvIdeal.τ).loc Cert.QkvIdeal.main_v13_1) = v1 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ θ_run (Cert.NormIdeal.defs (F := Ideal)) (onTc (τ := Cert.NormIdeal.τ) (Cert.NormIdeal.main (F := Ideal))) ⟨m', fun _ => 0, g'⟩ (fun r => ∀ c : Dev Cert.NormIdeal.nD,
          r.2.mem ((c.tc : Thread Cert.NormIdeal.nD Cert.NormIdeal.τ).loc Cert.NormIdeal.main_v1_0) = v0 c
          ∧ r.2.mem ((c.tc : Thread Cert.NormIdeal.nD Cert.NormIdeal.τ).loc Cert.NormIdeal.main_v1_1) = v1 c
          ∧ r.2.mem ((c.tc : Thread Cert.NormIdeal.nD Cert.NormIdeal.τ).loc Cert.NormIdeal.main_arg0) = m' ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m' ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m' ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m' ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m' ((c.tc : Thread Cert.NormIdeal.nD Cert.NormIdeal.τ).loc Cert.NormIdeal.main_arg4))

def Claim : Prop :=
  ∃ (hKernel : Cert.Kernel.Facts) (hKernelIdeal : Cert.KernelIdeal.Facts) (hReferenceIdeal : Cert.ReferenceIdeal.Facts) (hQkv : Cert.Qkv.Facts) (hQkvIdeal : Cert.QkvIdeal.Facts) (hNormIdeal : Cert.NormIdeal.Facts),
    quiescent_Kernel (hKernel := hKernel)
    ∧ quiescent_KernelIdeal (hKernelIdeal := hKernelIdeal)
    ∧ quiescent_ReferenceIdeal (hReferenceIdeal := hReferenceIdeal)
    ∧ quiescent_Qkv (hQkv := hQkv)
    ∧ quiescent_QkvIdeal (hQkvIdeal := hQkvIdeal)
    ∧ quiescent_NormIdeal (hNormIdeal := hNormIdeal)
    ∧ preserves_Kernel_KernelIdeal
    ∧ algebraic_KernelIdeal_ReferenceIdeal (hKernelIdeal := hKernelIdeal) (hReferenceIdeal := hReferenceIdeal)
    ∧ preserves_Qkv_QkvIdeal
    ∧ algebraic_QkvIdeal_NormIdeal (hQkvIdeal := hQkvIdeal) (hNormIdeal := hNormIdeal)
-- ==== Kernel.lean ====
abbrev S2x128x17408 : Shape := ⟨3, ![2, 128, 17408]⟩
abbrev S2x128x136 : Shape := ⟨3, ![2, 128, 136]⟩
abbrev S17408x5120 : Shape := ⟨2, ![17408, 5120]⟩
abbrev S136x40 : Shape := ⟨2, ![136, 40]⟩
abbrev S2x128x5120 : Shape := ⟨3, ![2, 128, 5120]⟩
abbrev S2x136x128 : Shape := ⟨3, ![2, 136, 128]⟩
abbrev S40x136 : Shape := ⟨2, ![40, 136]⟩
abbrev S256x17408 : Shape := ⟨2, ![256, 17408]⟩
abbrev S256x5120 : Shape := ⟨2, ![256, 5120]⟩
abbrev S17408x512 : Shape := ⟨2, ![17408, 512]⟩
abbrev S256x512 : Shape := ⟨2, ![256, 512]⟩
abbrev S1x136x128 : Shape := ⟨3, ![1, 136, 128]⟩
abbrev S136x128 : Shape := ⟨2, ![136, 128]⟩
abbrev S128x136 : Shape := ⟨2, ![128, 136]⟩
abbrev S256x136 : Shape := ⟨2, ![256, 136]⟩
abbrev S256x1 : Shape := ⟨2, ![256, 1]⟩
abbrev S256x128 : Shape := ⟨2, ![256, 128]⟩
abbrev S1x1 : Shape := ⟨2, ![1, 1]⟩
abbrev S128x128 : Shape := ⟨2, ![128, 128]⟩
abbrev S128x512 : Shape := ⟨2, ![128, 512]⟩
abbrev S1024x512 : Shape := ⟨2, ![1024, 512]⟩
abbrev S256x1024 : Shape := ⟨2, ![256, 1024]⟩

abbrev nBuf : Space → Nat
  | .hbm => 10
  | .vmem => 9
  | .smem => 1
  | _ => 0

abbrev bufTy : (tb : Table) → Fin (tcTables nBuf tb) → BufTy
  | .hbm, ⟨0, _⟩ => ⟨S2x128x17408, .fp8e4m3⟩
  | .hbm, ⟨1, _⟩ => ⟨S2x128x136, .f32⟩
  | .hbm, ⟨2, _⟩ => ⟨S17408x5120, .fp8e4m3⟩
  | .hbm, ⟨3, _⟩ => ⟨S136x40, .f32⟩
  | .hbm, ⟨4, _⟩ => ⟨S2x128x5120, .bf16⟩
  | .hbm, ⟨5, _⟩ => ⟨S2x136x128, .f32⟩
  | .hbm, ⟨6, _⟩ => ⟨S40x136, .f32⟩
  | .hbm, ⟨7, _⟩ => ⟨S256x17408, .fp8e4m3⟩
  | .hbm, ⟨8, _⟩ => ⟨S256x5120, .bf16⟩
  | .hbm, ⟨9, _⟩ => ⟨S256x5120, .bf16⟩
  | .local _ .vmem, ⟨0, _⟩ => ⟨S256x17408, .fp8e4m3⟩
  | .local _ .vmem, ⟨1, _⟩ => ⟨S2x136x128, .f32⟩
  | .local _ .vmem, ⟨2, _⟩ => ⟨S17408x512, .fp8e4m3⟩
  | .local _ .vmem, ⟨3, _⟩ => ⟨S17408x512, .fp8e4m3⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x17408, .bf16⟩
  | .local _ .smem, ⟨0, _⟩ => ⟨S40x136, .f32⟩
  | _, _ => ⟨S2x128x17408, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![10], ![false]⟩

def k0_off1 (i : grid0.Coords) (c0_i32_1 : BitVec 32) : Fin 2 → Nat :=
  let arg0 : BitVec 32 := BitVec.ofNat 32 (i 0).val
  let c4_i32 : BitVec 32 := 4#32
  let v4 : BitVec 32 := Scalar.muli arg0 c4_i32
  let v5 : BitVec 32 := Scalar.addi v4 c0_i32_1
  let v6 : Index := Scalar.indexCast v5
  let c0 : Index := 0#32
  ![v6.toNat, 0]
def k0_off2 (i : grid0.Coords) (c0_i32_14 : BitVec 32) : Fin 2 → Nat :=
  let arg0 : BitVec 32 := BitVec.ofNat 32 (i 0).val
  let c4_i32_13 : BitVec 32 := 4#32
  let v41 : BitVec 32 := Scalar.muli arg0 c4_i32_13
  let v42 : BitVec 32 := Scalar.addi v41 c0_i32_14
  let v43 : Index := Scalar.indexCast v42
  let c1 : Index := 1#32
  ![v43.toNat, 1]
def k0_off3 (i : grid0.Coords) (c0_i32_33 : BitVec 32) : Fin 2 → Nat :=
  let arg0 : BitVec 32 := BitVec.ofNat 32 (i 0).val
  let c4_i32_32 : BitVec 32 := 4#32
  let v78 : BitVec 32 := Scalar.muli arg0 c4_i32_32
  let v79 : BitVec 32 := Scalar.addi v78 c0_i32_33
  let v80 : Index := Scalar.indexCast v79
  let c2 : Index := 2#32
  ![v80.toNat, 2]
def k0_off4 (i : grid0.Coords) (c0_i32_52 : BitVec 32) : Fin 2 → Nat :=
  let arg0 : BitVec 32 := BitVec.ofNat 32 (i 0).val
  let c4_i32_51 : BitVec 32 := 4#32
  let v115 : BitVec 32 := Scalar.muli arg0 c4_i32_51
  let v116 : BitVec 32 := Scalar.addi v115 c0_i32_52
  let v117 : Index := Scalar.indexCast v116
  let c3 : Index := 3#32
  ![v117.toNat, 3]
def k0_off5 (i : grid0.Coords) (c0_i32_71 : BitVec 32) : Fin 2 → Nat :=
  let arg0 : BitVec 32 := BitVec.ofNat 32 (i 0).val
  let c4_i32_70 : BitVec 32 := 4#32
  let v152 : BitVec 32 := Scalar.muli arg0 c4_i32_70
  let v153 : BitVec 32 := Scalar.addi v152 c0_i32_71
  let v154 : Index := Scalar.indexCast v153
  let c4 : Index := 4#32
  ![v154.toNat, 4]
def k0_off6 (i : grid0.Coords) (c0_i32_89 : BitVec 32) : Fin 2 → Nat :=
  let arg0 : BitVec 32 := BitVec.ofNat 32 (i 0).val
  let c4_i32_88 : BitVec 32 := 4#32
  let v189 : BitVec 32 := Scalar.muli arg0 c4_i32_88
  let v190 : BitVec 32 := Scalar.addi v189 c0_i32_89
  let v191 : Index := Scalar.indexCast v190
  let c5 : Index := 5#32
  ![v191.toNat, 5]
def k0_off7 (i : grid0.Coords) (c0_i32_107 : BitVec 32) : Fin 2 → Nat :=
  let arg0 : BitVec 32 := BitVec.ofNat 32 (i 0).val
  let c4_i32_106 : BitVec 32 := 4#32
  let v226 : BitVec 32 := Scalar.muli arg0 c4_i32_106
  let v227 : BitVec 32 := Scalar.addi v226 c0_i32_107
  let v228 : Index := Scalar.indexCast v227
  let c6 : Index := 6#32
  ![v228.toNat, 6]
def k0_off8 (i : grid0.Coords) (c0_i32_125 : BitVec 32) : Fin 2 → Nat :=
  let arg0 : BitVec 32 := BitVec.ofNat 32 (i 0).val
  let c4_i32_124 : BitVec 32 := 4#32
  let v263 : BitVec 32 := Scalar.muli arg0 c4_i32_124
  let v264 : BitVec 32 := Scalar.addi v263 c0_i32_125
  let v265 : Index := Scalar.indexCast v264
  let c7 : Index := 7#32
  ![v265.toNat, 7]
def k0_off9 (i : grid0.Coords) (c0_i32_146 : BitVec 32) : Fin 2 → Nat :=
  let arg0 : BitVec 32 := BitVec.ofNat 32 (i 0).val
  let c4_i32_145 : BitVec 32 := 4#32
  let v304 : BitVec 32 := Scalar.muli arg0 c4_i32_145
  let v305 : BitVec 32 := Scalar.addi v304 c0_i32_146
  let v306 : Index := Scalar.indexCast v305
  let c8 : Index := 8#32
  ![v306.toNat, 8]
def k0_off10 (i : grid0.Coords) (c0_i32_164 : BitVec 32) : Fin 2 → Nat :=
  let arg0 : BitVec 32 := BitVec.ofNat 32 (i 0).val
  let c4_i32_163 : BitVec 32 := 4#32
  let v341 : BitVec 32 := Scalar.muli arg0 c4_i32_163
  let v342 : BitVec 32 := Scalar.addi v341 c0_i32_164
  let v343 : Index := Scalar.indexCast v342
  let c9 : Index := 9#32
  ![v343.toNat, 9]
def k0_off11 (i : grid0.Coords) (c0_i32_182 : BitVec 32) : Fin 2 → Nat :=
  let arg0 : BitVec 32 := BitVec.ofNat 32 (i 0).val
  let c4_i32_181 : BitVec 32 := 4#32
  let v378 : BitVec 32 := Scalar.muli arg0 c4_i32_181
  let v379 : BitVec 32 := Scalar.addi v378 c0_i32_182
  let v380 : Index := Scalar.indexCast v379
  let c10 : Index := 10#32
  ![v380.toNat, 10]
def k0_off12 (i : grid0.Coords) (c0_i32_200 : BitVec 32) : Fin 2 → Nat :=
  let arg0 : BitVec 32 := BitVec.ofNat 32 (i 0).val
  let c4_i32_199 : BitVec 32 := 4#32
  let v415 : BitVec 32 := Scalar.muli arg0 c4_i32_199
  let v416 : BitVec 32 := Scalar.addi v415 c0_i32_200
  let v417 : Index := Scalar.indexCast v416
  let c11 : Index := 11#32
  ![v417.toNat, 11]
def k0_off13 (i : grid0.Coords) (c0_i32_218 : BitVec 32) : Fin 2 → Nat :=
  let arg0 : BitVec 32 := BitVec.ofNat 32 (i 0).val
  let c4_i32_217 : BitVec 32 := 4#32
  let v452 : BitVec 32 := Scalar.muli arg0 c4_i32_217
  let v453 : BitVec 32 := Scalar.addi v452 c0_i32_218
  let v454 : Index := Scalar.indexCast v453
  let c12 : Index := 12#32
  ![v454.toNat, 12]
def k0_off14 (i : grid0.Coords) (c0_i32_236 : BitVec 32) : Fin 2 → Nat :=
  let arg0 : BitVec 32 := BitVec.ofNat 32 (i 0).val
  let c4_i32_235 : BitVec 32 := 4#32
  let v489 : BitVec 32 := Scalar.muli arg0 c4_i32_235
  let v490 : BitVec 32 := Scalar.addi v489 c0_i32_236
  let v491 : Index := Scalar.indexCast v490
  let c13 : Index := 13#32
  ![v491.toNat, 13]
def k0_off15 (i : grid0.Coords) (c0_i32_254 : BitVec 32) : Fin 2 → Nat :=
  let arg0 : BitVec 32 := BitVec.ofNat 32 (i 0).val
  let c4_i32_253 : BitVec 32 := 4#32
  let v526 : BitVec 32 := Scalar.muli arg0 c4_i32_253
  let v527 : BitVec 32 := Scalar.addi v526 c0_i32_254
  let v528 : Index := Scalar.indexCast v527
  let c14 : Index := 14#32
  ![v528.toNat, 14]
def k0_off16 (i : grid0.Coords) (c0_i32_272 : BitVec 32) : Fin 2 → Nat :=
  let arg0 : BitVec 32 := BitVec.ofNat 32 (i 0).val
  let c4_i32_271 : BitVec 32 := 4#32
  let v563 : BitVec 32 := Scalar.muli arg0 c4_i32_271
  let v564 : BitVec 32 := Scalar.addi v563 c0_i32_272
  let v565 : Index := Scalar.indexCast v564
  let c15 : Index := 15#32
  ![v565.toNat, 15]
def k0_off17 (i : grid0.Coords) (c0_i32_293 : BitVec 32) : Fin 2 → Nat :=
  let arg0 : BitVec 32 := BitVec.ofNat 32 (i 0).val
  let c4_i32_292 : BitVec 32 := 4#32
  let v604 : BitVec 32 := Scalar.muli arg0 c4_i32_292
  let v605 : BitVec 32 := Scalar.addi v604 c0_i32_293
  let v606 : Index := Scalar.indexCast v605
  let c16 : Index := 16#32
  ![v606.toNat, 16]
def k0_off18 (i : grid0.Coords) (c0_i32_311 : BitVec 32) : Fin 2 → Nat :=
  let arg0 : BitVec 32 := BitVec.ofNat 32 (i 0).val
  let c4_i32_310 : BitVec 32 := 4#32
  let v641 : BitVec 32 := Scalar.muli arg0 c4_i32_310
  let v642 : BitVec 32 := Scalar.addi v641 c0_i32_311
  let v643 : Index := Scalar.indexCast v642
  let c17 : Index := 17#32
  ![v643.toNat, 17]
def k0_off19 (i : grid0.Coords) (c0_i32_329 : BitVec 32) : Fin 2 → Nat :=
  let arg0 : BitVec 32 := BitVec.ofNat 32 (i 0).val
  let c4_i32_328 : BitVec 32 := 4#32
  let v678 : BitVec 32 := Scalar.muli arg0 c4_i32_328
  let v679 : BitVec 32 := Scalar.addi v678 c0_i32_329
  let v680 : Index := Scalar.indexCast v679
  let c18 : Index := 18#32
  ![v680.toNat, 18]
def k0_off20 (i : grid0.Coords) (c0_i32_347 : BitVec 32) : Fin 2 → Nat :=
  let arg0 : BitVec 32 := BitVec.ofNat 32 (i 0).val
  let c4_i32_346 : BitVec 32 := 4#32
  let v715 : BitVec 32 := Scalar.muli arg0 c4_i32_346
  let v716 : BitVec 32 := Scalar.addi v715 c0_i32_347
  let v717 : Index := Scalar.indexCast v716
  let c19 : Index := 19#32
  ![v717.toNat, 19]
def k0_off21 (i : grid0.Coords) (c0_i32_365 : BitVec 32) : Fin 2 → Nat :=
  let arg0 : BitVec 32 := BitVec.ofNat 32 (i 0).val
  let c4_i32_364 : BitVec 32 := 4#32
  let v752 : BitVec 32 := Scalar.muli arg0 c4_i32_364
  let v753 : BitVec 32 := Scalar.addi v752 c0_i32_365
  let v754 : Index := Scalar.indexCast v753
  let c20 : Index := 20#32
  ![v754.toNat, 20]
def k0_off22 (i : grid0.Coords) (c0_i32_383 : BitVec 32) : Fin 2 → Nat :=
  let arg0 : BitVec 32 := BitVec.ofNat 32 (i 0).val
  let c4_i32_382 : BitVec 32 := 4#32
  let v789 : BitVec 32 := Scalar.muli arg0 c4_i32_382
  let v790 : BitVec 32 := Scalar.addi v789 c0_i32_383
  let v791 : Index := Scalar.indexCast v790
  let c21 : Index := 21#32
  ![v791.toNat, 21]
def k0_off23 (i : grid0.Coords) (c0_i32_401 : BitVec 32) : Fin 2 → Nat :=
  let arg0 : BitVec 32 := BitVec.ofNat 32 (i 0).val
  let c4_i32_400 : BitVec 32 := 4#32
  let v826 : BitVec 32 := Scalar.muli arg0 c4_i32_400
  let v827 : BitVec 32 := Scalar.addi v826 c0_i32_401
  let v828 : Index := Scalar.indexCast v827
  let c22 : Index := 22#32
  ![v828.toNat, 22]
def k0_off24 (i : grid0.Coords) (c0_i32_419 : BitVec 32) : Fin 2 → Nat :=
  let arg0 : BitVec 32 := BitVec.ofNat 32 (i 0).val
  let c4_i32_418 : BitVec 32 := 4#32
  let v863 : BitVec 32 := Scalar.muli arg0 c4_i32_418
  let v864 : BitVec 32 := Scalar.addi v863 c0_i32_419
  let v865 : Index := Scalar.indexCast v864
  let c23 : Index := 23#32
  ![v865.toNat, 23]
def k0_off25 (i : grid0.Coords) (c0_i32_440 : BitVec 32) : Fin 2 → Nat :=
  let arg0 : BitVec 32 := BitVec.ofNat 32 (i 0).val
  let c4_i32_439 : BitVec 32 := 4#32
  let v904 : BitVec 32 := Scalar.muli arg0 c4_i32_439
  let v905 : BitVec 32 := Scalar.addi v904 c0_i32_440
  let v906 : Index := Scalar.indexCast v905
  let c24 : Index := 24#32
  ![v906.toNat, 24]
def k0_off26 (i : grid0.Coords) (c0_i32_458 : BitVec 32) : Fin 2 → Nat :=
  let arg0 : BitVec 32 := BitVec.ofNat 32 (i 0).val
  let c4_i32_457 : BitVec 32 := 4#32
  let v941 : BitVec 32 := Scalar.muli arg0 c4_i32_457
  let v942 : BitVec 32 := Scalar.addi v941 c0_i32_458
  let v943 : Index := Scalar.indexCast v942
  let c25 : Index := 25#32
  ![v943.toNat, 25]
def k0_off27 (i : grid0.Coords) (c0_i32_476 : BitVec 32) : Fin 2 → Nat :=
  let arg0 : BitVec 32 := BitVec.ofNat 32 (i 0).val
  let c4_i32_475 : BitVec 32 := 4#32
  let v978 : BitVec 32 := Scalar.muli arg0 c4_i32_475
  let v979 : BitVec 32 := Scalar.addi v978 c0_i32_476
  let v980 : Index := Scalar.indexCast v979
  let c26 : Index := 26#32
  ![v980.toNat, 26]
def k0_off28 (i : grid0.Coords) (c0_i32_494 : BitVec 32) : Fin 2 → Nat :=
  let arg0 : BitVec 32 := BitVec.ofNat 32 (i 0).val
  let c4_i32_493 : BitVec 32 := 4#32
  let v1015 : BitVec 32 := Scalar.muli arg0 c4_i32_493
  let v1016 : BitVec 32 := Scalar.addi v1015 c0_i32_494
  let v1017 : Index := Scalar.indexCast v1016
  let c27 : Index := 27#32
  ![v1017.toNat, 27]
def k0_off29 (i : grid0.Coords) (c0_i32_512 : BitVec 32) : Fin 2 → Nat :=
  let arg0 : BitVec 32 := BitVec.ofNat 32 (i 0).val
  let c4_i32_511 : BitVec 32 := 4#32
  let v1052 : BitVec 32 := Scalar.muli arg0 c4_i32_511
  let v1053 : BitVec 32 := Scalar.addi v1052 c0_i32_512
  let v1054 : Index := Scalar.indexCast v1053
  let c28 : Index := 28#32
  ![v1054.toNat, 28]
def k0_off30 (i : grid0.Coords) (c0_i32_530 : BitVec 32) : Fin 2 → Nat :=
  let arg0 : BitVec 32 := BitVec.ofNat 32 (i 0).val
  let c4_i32_529 : BitVec 32 := 4#32
  let v1089 : BitVec 32 := Scalar.muli arg0 c4_i32_529
  let v1090 : BitVec 32 := Scalar.addi v1089 c0_i32_530
  let v1091 : Index := Scalar.indexCast v1090
  let c29 : Index := 29#32
  ![v1091.toNat, 29]
def k0_off31 (i : grid0.Coords) (c0_i32_548 : BitVec 32) : Fin 2 → Nat :=
  let arg0 : BitVec 32 := BitVec.ofNat 32 (i 0).val
  let c4_i32_547 : BitVec 32 := 4#32
  let v1126 : BitVec 32 := Scalar.muli arg0 c4_i32_547
  let v1127 : BitVec 32 := Scalar.addi v1126 c0_i32_548
  let v1128 : Index := Scalar.indexCast v1127
  let c30 : Index := 30#32
  ![v1128.toNat, 30]
def k0_off32 (i : grid0.Coords) (c0_i32_566 : BitVec 32) : Fin 2 → Nat :=
  let arg0 : BitVec 32 := BitVec.ofNat 32 (i 0).val
  let c4_i32_565 : BitVec 32 := 4#32
  let v1163 : BitVec 32 := Scalar.muli arg0 c4_i32_565
  let v1164 : BitVec 32 := Scalar.addi v1163 c0_i32_566
  let v1165 : Index := Scalar.indexCast v1164
  let c31 : Index := 31#32
  ![v1165.toNat, 31]
def k0_off33 (i : grid0.Coords) (c0_i32_587 : BitVec 32) : Fin 2 → Nat :=
  let arg0 : BitVec 32 := BitVec.ofNat 32 (i 0).val
  let c4_i32_586 : BitVec 32 := 4#32
  let v1204 : BitVec 32 := Scalar.muli arg0 c4_i32_586
  let v1205 : BitVec 32 := Scalar.addi v1204 c0_i32_587
  let v1206 : Index := Scalar.indexCast v1205
  let c32 : Index := 32#32
  ![v1206.toNat, 32]
def k0_off34 (i : grid0.Coords) (c0_i32_605 : BitVec 32) : Fin 2 → Nat :=
  let arg0 : BitVec 32 := BitVec.ofNat 32 (i 0).val
  let c4_i32_604 : BitVec 32 := 4#32
  let v1241 : BitVec 32 := Scalar.muli arg0 c4_i32_604
  let v1242 : BitVec 32 := Scalar.addi v1241 c0_i32_605
  let v1243 : Index := Scalar.indexCast v1242
  let c33 : Index := 33#32
  ![v1243.toNat, 33]
def k0_off35 (i : grid0.Coords) (c0_i32_623 : BitVec 32) : Fin 2 → Nat :=
  let arg0 : BitVec 32 := BitVec.ofNat 32 (i 0).val
  let c4_i32_622 : BitVec 32 := 4#32
  let v1278 : BitVec 32 := Scalar.muli arg0 c4_i32_622
  let v1279 : BitVec 32 := Scalar.addi v1278 c0_i32_623
  let v1280 : Index := Scalar.indexCast v1279
  let c34 : Index := 34#32
  ![v1280.toNat, 34]
def k0_off36 (i : grid0.Coords) (c0_i32_641 : BitVec 32) : Fin 2 → Nat :=
  let arg0 : BitVec 32 := BitVec.ofNat 32 (i 0).val
  let c4_i32_640 : BitVec 32 := 4#32
  let v1315 : BitVec 32 := Scalar.muli arg0 c4_i32_640
  let v1316 : BitVec 32 := Scalar.addi v1315 c0_i32_641
  let v1317 : Index := Scalar.indexCast v1316
  let c35 : Index := 35#32
  ![v1317.toNat, 35]
def k0_off37 (i : grid0.Coords) (c0_i32_659 : BitVec 32) : Fin 2 → Nat :=
  let arg0 : BitVec 32 := BitVec.ofNat 32 (i 0).val
  let c4_i32_658 : BitVec 32 := 4#32
  let v1352 : BitVec 32 := Scalar.muli arg0 c4_i32_658
  let v1353 : BitVec 32 := Scalar.addi v1352 c0_i32_659
  let v1354 : Index := Scalar.indexCast v1353
  let c36 : Index := 36#32
  ![v1354.toNat, 36]
def k0_off38 (i : grid0.Coords) (c0_i32_677 : BitVec 32) : Fin 2 → Nat :=
  let arg0 : BitVec 32 := BitVec.ofNat 32 (i 0).val
  let c4_i32_676 : BitVec 32 := 4#32
  let v1389 : BitVec 32 := Scalar.muli arg0 c4_i32_676
  let v1390 : BitVec 32 := Scalar.addi v1389 c0_i32_677
  let v1391 : Index := Scalar.indexCast v1390
  let c37 : Index := 37#32
  ![v1391.toNat, 37]
def k0_off39 (i : grid0.Coords) (c0_i32_695 : BitVec 32) : Fin 2 → Nat :=
  let arg0 : BitVec 32 := BitVec.ofNat 32 (i 0).val
  let c4_i32_694 : BitVec 32 := 4#32
  let v1426 : BitVec 32 := Scalar.muli arg0 c4_i32_694
  let v1427 : BitVec 32 := Scalar.addi v1426 c0_i32_695
  let v1428 : Index := Scalar.indexCast v1427
  let c38 : Index := 38#32
  ![v1428.toNat, 38]
def k0_off40 (i : grid0.Coords) (c0_i32_713 : BitVec 32) : Fin 2 → Nat :=
  let arg0 : BitVec 32 := BitVec.ofNat 32 (i 0).val
  let c4_i32_712 : BitVec 32 := 4#32
  let v1463 : BitVec 32 := Scalar.muli arg0 c4_i32_712
  let v1464 : BitVec 32 := Scalar.addi v1463 c0_i32_713
  let v1465 : Index := Scalar.indexCast v1464
  let c39 : Index := 39#32
  ![v1465.toNat, 39]
def k0_off41 (i : grid0.Coords) (c0_i32_734 : BitVec 32) : Fin 2 → Nat :=
  let arg0 : BitVec 32 := BitVec.ofNat 32 (i 0).val
  let c4_i32_733 : BitVec 32 := 4#32
  let v1504 : BitVec 32 := Scalar.muli arg0 c4_i32_733
  let v1505 : BitVec 32 := Scalar.addi v1504 c0_i32_734
  let v1506 : Index := Scalar.indexCast v1505
  let c40 : Index := 40#32
  ![v1506.toNat, 40]
def k0_off42 (i : grid0.Coords) (c0_i32_752 : BitVec 32) : Fin 2 → Nat :=
  let arg0 : BitVec 32 := BitVec.ofNat 32 (i 0).val
  let c4_i32_751 : BitVec 32 := 4#32
  let v1541 : BitVec 32 := Scalar.muli arg0 c4_i32_751
  let v1542 : BitVec 32 := Scalar.addi v1541 c0_i32_752
  let v1543 : Index := Scalar.indexCast v1542
  let c41 : Index := 41#32
  ![v1543.toNat, 41]
def k0_off43 (i : grid0.Coords) (c0_i32_770 : BitVec 32) : Fin 2 → Nat :=
  let arg0 : BitVec 32 := BitVec.ofNat 32 (i 0).val
  let c4_i32_769 : BitVec 32 := 4#32
  let v1578 : BitVec 32 := Scalar.muli arg0 c4_i32_769
  let v1579 : BitVec 32 := Scalar.addi v1578 c0_i32_770
  let v1580 : Index := Scalar.indexCast v1579
  let c42 : Index := 42#32
  ![v1580.toNat, 42]
def k0_off44 (i : grid0.Coords) (c0_i32_788 : BitVec 32) : Fin 2 → Nat :=
  let arg0 : BitVec 32 := BitVec.ofNat 32 (i 0).val
  let c4_i32_787 : BitVec 32 := 4#32
  let v1615 : BitVec 32 := Scalar.muli arg0 c4_i32_787
  let v1616 : BitVec 32 := Scalar.addi v1615 c0_i32_788
  let v1617 : Index := Scalar.indexCast v1616
  let c43 : Index := 43#32
  ![v1617.toNat, 43]
def k0_off45 (i : grid0.Coords) (c0_i32_806 : BitVec 32) : Fin 2 → Nat :=
  let arg0 : BitVec 32 := BitVec.ofNat 32 (i 0).val
  let c4_i32_805 : BitVec 32 := 4#32
  let v1652 : BitVec 32 := Scalar.muli arg0 c4_i32_805
  let v1653 : BitVec 32 := Scalar.addi v1652 c0_i32_806
  let v1654 : Index := Scalar.indexCast v1653
  let c44 : Index := 44#32
  ![v1654.toNat, 44]
def k0_off46 (i : grid0.Coords) (c0_i32_824 : BitVec 32) : Fin 2 → Nat :=
  let arg0 : BitVec 32 := BitVec.ofNat 32 (i 0).val
  let c4_i32_823 : BitVec 32 := 4#32
  let v1689 : BitVec 32 := Scalar.muli arg0 c4_i32_823
  let v1690 : BitVec 32 := Scalar.addi v1689 c0_i32_824
  let v1691 : Index := Scalar.indexCast v1690
  let c45 : Index := 45#32
  ![v1691.toNat, 45]
def k0_off47 (i : grid0.Coords) (c0_i32_842 : BitVec 32) : Fin 2 → Nat :=
  let arg0 : BitVec 32 := BitVec.ofNat 32 (i 0).val
  let c4_i32_841 : BitVec 32 := 4#32
  let v1726 : BitVec 32 := Scalar.muli arg0 c4_i32_841
  let v1727 : BitVec 32 := Scalar.addi v1726 c0_i32_842
  let v1728 : Index := Scalar.indexCast v1727
  let c46 : Index := 46#32
  ![v1728.toNat, 46]
def k0_off48 (i : grid0.Coords) (c0_i32_860 : BitVec 32) : Fin 2 → Nat :=
  let arg0 : BitVec 32 := BitVec.ofNat 32 (i 0).val
  let c4_i32_859 : BitVec 32 := 4#32
  let v1763 : BitVec 32 := Scalar.muli arg0 c4_i32_859
  let v1764 : BitVec 32 := Scalar.addi v1763 c0_i32_860
  let v1765 : Index := Scalar.indexCast v1764
  let c47 : Index := 47#32
  ![v1765.toNat, 47]
def k0_off49 (i : grid0.Coords) (c0_i32_881 : BitVec 32) : Fin 2 → Nat :=
  let arg0 : BitVec 32 := BitVec.ofNat 32 (i 0).val
  let c4_i32_880 : BitVec 32 := 4#32
  let v1804 : BitVec 32 := Scalar.muli arg0 c4_i32_880
  let v1805 : BitVec 32 := Scalar.addi v1804 c0_i32_881
  let v1806 : Index := Scalar.indexCast v1805
  let c48 : Index := 48#32
  ![v1806.toNat, 48]
def k0_off50 (i : grid0.Coords) (c0_i32_899 : BitVec 32) : Fin 2 → Nat :=
  let arg0 : BitVec 32 := BitVec.ofNat 32 (i 0).val
  let c4_i32_898 : BitVec 32 := 4#32
  let v1841 : BitVec 32 := Scalar.muli arg0 c4_i32_898
  let v1842 : BitVec 32 := Scalar.addi v1841 c0_i32_899
  let v1843 : Index := Scalar.indexCast v1842
  let c49 : Index := 49#32
  ![v1843.toNat, 49]
def k0_off51 (i : grid0.Coords) (c0_i32_917 : BitVec 32) : Fin 2 → Nat :=
  let arg0 : BitVec 32 := BitVec.ofNat 32 (i 0).val
  let c4_i32_916 : BitVec 32 := 4#32
  let v1878 : BitVec 32 := Scalar.muli arg0 c4_i32_916
  let v1879 : BitVec 32 := Scalar.addi v1878 c0_i32_917
  let v1880 : Index := Scalar.indexCast v1879
  let c50 : Index := 50#32
  ![v1880.toNat, 50]
def k0_off52 (i : grid0.Coords) (c0_i32_935 : BitVec 32) : Fin 2 → Nat :=
  let arg0 : BitVec 32 := BitVec.ofNat 32 (i 0).val
  let c4_i32_934 : BitVec 32 := 4#32
  let v1915 : BitVec 32 := Scalar.muli arg0 c4_i32_934
  let v1916 : BitVec 32 := Scalar.addi v1915 c0_i32_935
  let v1917 : Index := Scalar.indexCast v1916
  let c51 : Index := 51#32
  ![v1917.toNat, 51]
def k0_off53 (i : grid0.Coords) (c0_i32_953 : BitVec 32) : Fin 2 → Nat :=
  let arg0 : BitVec 32 := BitVec.ofNat 32 (i 0).val
  let c4_i32_952 : BitVec 32 := 4#32
  let v1952 : BitVec 32 := Scalar.muli arg0 c4_i32_952
  let v1953 : BitVec 32 := Scalar.addi v1952 c0_i32_953
  let v1954 : Index := Scalar.indexCast v1953
  let c52 : Index := 52#32
  ![v1954.toNat, 52]
def k0_off54 (i : grid0.Coords) (c0_i32_971 : BitVec 32) : Fin 2 → Nat :=
  let arg0 : BitVec 32 := BitVec.ofNat 32 (i 0).val
  let c4_i32_970 : BitVec 32 := 4#32
  let v1989 : BitVec 32 := Scalar.muli arg0 c4_i32_970
  let v1990 : BitVec 32 := Scalar.addi v1989 c0_i32_971
  let v1991 : Index := Scalar.indexCast v1990
  let c53 : Index := 53#32
  ![v1991.toNat, 53]
def k0_off55 (i : grid0.Coords) (c0_i32_989 : BitVec 32) : Fin 2 → Nat :=
  let arg0 : BitVec 32 := BitVec.ofNat 32 (i 0).val
  let c4_i32_988 : BitVec 32 := 4#32
  let v2026 : BitVec 32 := Scalar.muli arg0 c4_i32_988
  let v2027 : BitVec 32 := Scalar.addi v2026 c0_i32_989
  let v2028 : Index := Scalar.indexCast v2027
  let c54 : Index := 54#32
  ![v2028.toNat, 54]
def k0_off56 (i : grid0.Coords) (c0_i32_1007 : BitVec 32) : Fin 2 → Nat :=
  let arg0 : BitVec 32 := BitVec.ofNat 32 (i 0).val
  let c4_i32_1006 : BitVec 32 := 4#32
  let v2063 : BitVec 32 := Scalar.muli arg0 c4_i32_1006
  let v2064 : BitVec 32 := Scalar.addi v2063 c0_i32_1007
  let v2065 : Index := Scalar.indexCast v2064
  let c55 : Index := 55#32
  ![v2065.toNat, 55]
def k0_off57 (i : grid0.Coords) (c0_i32_1028 : BitVec 32) : Fin 2 → Nat :=
  let arg0 : BitVec 32 := BitVec.ofNat 32 (i 0).val
  let c4_i32_1027 : BitVec 32 := 4#32
  let v2104 : BitVec 32 := Scalar.muli arg0 c4_i32_1027
  let v2105 : BitVec 32 := Scalar.addi v2104 c0_i32_1028
  let v2106 : Index := Scalar.indexCast v2105
  let c56 : Index := 56#32
  ![v2106.toNat, 56]
def k0_off58 (i : grid0.Coords) (c0_i32_1046 : BitVec 32) : Fin 2 → Nat :=
  let arg0 : BitVec 32 := BitVec.ofNat 32 (i 0).val
  let c4_i32_1045 : BitVec 32 := 4#32
  let v2141 : BitVec 32 := Scalar.muli arg0 c4_i32_1045
  let v2142 : BitVec 32 := Scalar.addi v2141 c0_i32_1046
  let v2143 : Index := Scalar.indexCast v2142
  let c57 : Index := 57#32
  ![v2143.toNat, 57]
def k0_off59 (i : grid0.Coords) (c0_i32_1064 : BitVec 32) : Fin 2 → Nat :=
  let arg0 : BitVec 32 := BitVec.ofNat 32 (i 0).val
  let c4_i32_1063 : BitVec 32 := 4#32
  let v2178 : BitVec 32 := Scalar.muli arg0 c4_i32_1063
  let v2179 : BitVec 32 := Scalar.addi v2178 c0_i32_1064
  let v2180 : Index := Scalar.indexCast v2179
  let c58 : Index := 58#32
  ![v2180.toNat, 58]
def k0_off60 (i : grid0.Coords) (c0_i32_1082 : BitVec 32) : Fin 2 → Nat :=
  let arg0 : BitVec 32 := BitVec.ofNat 32 (i 0).val
  let c4_i32_1081 : BitVec 32 := 4#32
  let v2215 : BitVec 32 := Scalar.muli arg0 c4_i32_1081
  let v2216 : BitVec 32 := Scalar.addi v2215 c0_i32_1082
  let v2217 : Index := Scalar.indexCast v2216
  let c59 : Index := 59#32
  ![v2217.toNat, 59]
def k0_off61 (i : grid0.Coords) (c0_i32_1100 : BitVec 32) : Fin 2 → Nat :=
  let arg0 : BitVec 32 := BitVec.ofNat 32 (i 0).val
  let c4_i32_1099 : BitVec 32 := 4#32
  let v2252 : BitVec 32 := Scalar.muli arg0 c4_i32_1099
  let v2253 : BitVec 32 := Scalar.addi v2252 c0_i32_1100
  let v2254 : Index := Scalar.indexCast v2253
  let c60 : Index := 60#32
  ![v2254.toNat, 60]
def k0_off62 (i : grid0.Coords) (c0_i32_1118 : BitVec 32) : Fin 2 → Nat :=
  let arg0 : BitVec 32 := BitVec.ofNat 32 (i 0).val
  let c4_i32_1117 : BitVec 32 := 4#32
  let v2289 : BitVec 32 := Scalar.muli arg0 c4_i32_1117
  let v2290 : BitVec 32 := Scalar.addi v2289 c0_i32_1118
  let v2291 : Index := Scalar.indexCast v2290
  let c61 : Index := 61#32
  ![v2291.toNat, 61]
def k0_off63 (i : grid0.Coords) (c0_i32_1136 : BitVec 32) : Fin 2 → Nat :=
  let arg0 : BitVec 32 := BitVec.ofNat 32 (i 0).val
  let c4_i32_1135 : BitVec 32 := 4#32
  let v2326 : BitVec 32 := Scalar.muli arg0 c4_i32_1135
  let v2327 : BitVec 32 := Scalar.addi v2326 c0_i32_1136
  let v2328 : Index := Scalar.indexCast v2327
  let c62 : Index := 62#32
  ![v2328.toNat, 62]
def k0_off64 (i : grid0.Coords) (c0_i32_1154 : BitVec 32) : Fin 2 → Nat :=
  let arg0 : BitVec 32 := BitVec.ofNat 32 (i 0).val
  let c4_i32_1153 : BitVec 32 := 4#32
  let v2363 : BitVec 32 := Scalar.muli arg0 c4_i32_1153
  let v2364 : BitVec 32 := Scalar.addi v2363 c0_i32_1154
  let v2365 : Index := Scalar.indexCast v2364
  let c63 : Index := 63#32
  ![v2365.toNat, 63]
def k0_off65 (i : grid0.Coords) (c0_i32_1175 : BitVec 32) : Fin 2 → Nat :=
  let arg0 : BitVec 32 := BitVec.ofNat 32 (i 0).val
  let c4_i32_1174 : BitVec 32 := 4#32
  let v2404 : BitVec 32 := Scalar.muli arg0 c4_i32_1174
  let v2405 : BitVec 32 := Scalar.addi v2404 c0_i32_1175
  let v2406 : Index := Scalar.indexCast v2405
  let c64 : Index := 64#32
  ![v2406.toNat, 64]
def k0_off66 (i : grid0.Coords) (c0_i32_1193 : BitVec 32) : Fin 2 → Nat :=
  let arg0 : BitVec 32 := BitVec.ofNat 32 (i 0).val
  let c4_i32_1192 : BitVec 32 := 4#32
  let v2441 : BitVec 32 := Scalar.muli arg0 c4_i32_1192
  let v2442 : BitVec 32 := Scalar.addi v2441 c0_i32_1193
  let v2443 : Index := Scalar.indexCast v2442
  let c65 : Index := 65#32
  ![v2443.toNat, 65]
def k0_off67 (i : grid0.Coords) (c0_i32_1211 : BitVec 32) : Fin 2 → Nat :=
  let arg0 : BitVec 32 := BitVec.ofNat 32 (i 0).val
  let c4_i32_1210 : BitVec 32 := 4#32
  let v2478 : BitVec 32 := Scalar.muli arg0 c4_i32_1210
  let v2479 : BitVec 32 := Scalar.addi v2478 c0_i32_1211
  let v2480 : Index := Scalar.indexCast v2479
  let c66 : Index := 66#32
  ![v2480.toNat, 66]
def k0_off68 (i : grid0.Coords) (c0_i32_1229 : BitVec 32) : Fin 2 → Nat :=
  let arg0 : BitVec 32 := BitVec.ofNat 32 (i 0).val
  let c4_i32_1228 : BitVec 32 := 4#32
  let v2515 : BitVec 32 := Scalar.muli arg0 c4_i32_1228
  let v2516 : BitVec 32 := Scalar.addi v2515 c0_i32_1229
  let v2517 : Index := Scalar.indexCast v2516
  let c67 : Index := 67#32
  ![v2517.toNat, 67]
def k0_off69 (i : grid0.Coords) (c0_i32_1247 : BitVec 32) : Fin 2 → Nat :=
  let arg0 : BitVec 32 := BitVec.ofNat 32 (i 0).val
  let c4_i32_1246 : BitVec 32 := 4#32
  let v2552 : BitVec 32 := Scalar.muli arg0 c4_i32_1246
  let v2553 : BitVec 32 := Scalar.addi v2552 c0_i32_1247
  let v2554 : Index := Scalar.indexCast v2553
  let c68 : Index := 68#32
  ![v2554.toNat, 68]
def k0_off70 (i : grid0.Coords) (c0_i32_1265 : BitVec 32) : Fin 2 → Nat :=
  let arg0 : BitVec 32 := BitVec.ofNat 32 (i 0).val
  let c4_i32_1264 : BitVec 32 := 4#32
  let v2589 : BitVec 32 := Scalar.muli arg0 c4_i32_1264
  let v2590 : BitVec 32 := Scalar.addi v2589 c0_i32_1265
  let v2591 : Index := Scalar.indexCast v2590
  let c69 : Index := 69#32
  ![v2591.toNat, 69]
def k0_off71 (i : grid0.Coords) (c0_i32_1283 : BitVec 32) : Fin 2 → Nat :=
  let arg0 : BitVec 32 := BitVec.ofNat 32 (i 0).val
  let c4_i32_1282 : BitVec 32 := 4#32
  let v2626 : BitVec 32 := Scalar.muli arg0 c4_i32_1282
  let v2627 : BitVec 32 := Scalar.addi v2626 c0_i32_1283
  let v2628 : Index := Scalar.indexCast v2627
  let c70 : Index := 70#32
  ![v2628.toNat, 70]
def k0_off72 (i : grid0.Coords) (c0_i32_1301 : BitVec 32) : Fin 2 → Nat :=
  let arg0 : BitVec 32 := BitVec.ofNat 32 (i 0).val
  let c4_i32_1300 : BitVec 32 := 4#32
  let v2663 : BitVec 32 := Scalar.muli arg0 c4_i32_1300
  let v2664 : BitVec 32 := Scalar.addi v2663 c0_i32_1301
  let v2665 : Index := Scalar.indexCast v2664
  let c71 : Index := 71#32
  ![v2665.toNat, 71]
def k0_off73 (i : grid0.Coords) (c0_i32_1322 : BitVec 32) : Fin 2 → Nat :=
  let arg0 : BitVec 32 := BitVec.ofNat 32 (i 0).val
  let c4_i32_1321 : BitVec 32 := 4#32
  let v2704 : BitVec 32 := Scalar.muli arg0 c4_i32_1321
  let v2705 : BitVec 32 := Scalar.addi v2704 c0_i32_1322
  let v2706 : Index := Scalar.indexCast v2705
  let c72 : Index := 72#32
  ![v2706.toNat, 72]
def k0_off74 (i : grid0.Coords) (c0_i32_1340 : BitVec 32) : Fin 2 → Nat :=
  let arg0 : BitVec 32 := BitVec.ofNat 32 (i 0).val
  let c4_i32_1339 : BitVec 32 := 4#32
  let v2741 : BitVec 32 := Scalar.muli arg0 c4_i32_1339
  let v2742 : BitVec 32 := Scalar.addi v2741 c0_i32_1340
  let v2743 : Index := Scalar.indexCast v2742
  let c73 : Index := 73#32
  ![v2743.toNat, 73]
def k0_off75 (i : grid0.Coords) (c0_i32_1358 : BitVec 32) : Fin 2 → Nat :=
  let arg0 : BitVec 32 := BitVec.ofNat 32 (i 0).val
  let c4_i32_1357 : BitVec 32 := 4#32
  let v2778 : BitVec 32 := Scalar.muli arg0 c4_i32_1357
  let v2779 : BitVec 32 := Scalar.addi v2778 c0_i32_1358
  let v2780 : Index := Scalar.indexCast v2779
  let c74 : Index := 74#32
  ![v2780.toNat, 74]
def k0_off76 (i : grid0.Coords) (c0_i32_1376 : BitVec 32) : Fin 2 → Nat :=
  let arg0 : BitVec 32 := BitVec.ofNat 32 (i 0).val
  let c4_i32_1375 : BitVec 32 := 4#32
  let v2815 : BitVec 32 := Scalar.muli arg0 c4_i32_1375
  let v2816 : BitVec 32 := Scalar.addi v2815 c0_i32_1376
  let v2817 : Index := Scalar.indexCast v2816
  let c75 : Index := 75#32
  ![v2817.toNat, 75]
def k0_off77 (i : grid0.Coords) (c0_i32_1394 : BitVec 32) : Fin 2 → Nat :=
  let arg0 : BitVec 32 := BitVec.ofNat 32 (i 0).val
  let c4_i32_1393 : BitVec 32 := 4#32
  let v2852 : BitVec 32 := Scalar.muli arg0 c4_i32_1393
  let v2853 : BitVec 32 := Scalar.addi v2852 c0_i32_1394
  let v2854 : Index := Scalar.indexCast v2853
  let c76 : Index := 76#32
  ![v2854.toNat, 76]
def k0_off78 (i : grid0.Coords) (c0_i32_1412 : BitVec 32) : Fin 2 → Nat :=
  let arg0 : BitVec 32 := BitVec.ofNat 32 (i 0).val
  let c4_i32_1411 : BitVec 32 := 4#32
  let v2889 : BitVec 32 := Scalar.muli arg0 c4_i32_1411
  let v2890 : BitVec 32 := Scalar.addi v2889 c0_i32_1412
  let v2891 : Index := Scalar.indexCast v2890
  let c77 : Index := 77#32
  ![v2891.toNat, 77]
def k0_off79 (i : grid0.Coords) (c0_i32_1430 : BitVec 32) : Fin 2 → Nat :=
  let arg0 : BitVec 32 := BitVec.ofNat 32 (i 0).val
  let c4_i32_1429 : BitVec 32 := 4#32
  let v2926 : BitVec 32 := Scalar.muli arg0 c4_i32_1429
  let v2927 : BitVec 32 := Scalar.addi v2926 c0_i32_1430
  let v2928 : Index := Scalar.indexCast v2927
  let c78 : Index := 78#32
  ![v2928.toNat, 78]
def k0_off80 (i : grid0.Coords) (c0_i32_1448 : BitVec 32) : Fin 2 → Nat :=
  let arg0 : BitVec 32 := BitVec.ofNat 32 (i 0).val
  let c4_i32_1447 : BitVec 32 := 4#32
  let v2963 : BitVec 32 := Scalar.muli arg0 c4_i32_1447
  let v2964 : BitVec 32 := Scalar.addi v2963 c0_i32_1448
  let v2965 : Index := Scalar.indexCast v2964
  let c79 : Index := 79#32
  ![v2965.toNat, 79]
def k0_off81 (i : grid0.Coords) (c0_i32_1469 : BitVec 32) : Fin 2 → Nat :=
  let arg0 : BitVec 32 := BitVec.ofNat 32 (i 0).val
  let c4_i32_1468 : BitVec 32 := 4#32
  let v3004 : BitVec 32 := Scalar.muli arg0 c4_i32_1468
  let v3005 : BitVec 32 := Scalar.addi v3004 c0_i32_1469
  let v3006 : Index := Scalar.indexCast v3005
  let c80 : Index := 80#32
  ![v3006.toNat, 80]
def k0_off82 (i : grid0.Coords) (c0_i32_1487 : BitVec 32) : Fin 2 → Nat :=
  let arg0 : BitVec 32 := BitVec.ofNat 32 (i 0).val
  let c4_i32_1486 : BitVec 32 := 4#32
  let v3041 : BitVec 32 := Scalar.muli arg0 c4_i32_1486
  let v3042 : BitVec 32 := Scalar.addi v3041 c0_i32_1487
  let v3043 : Index := Scalar.indexCast v3042
  let c81 : Index := 81#32
  ![v3043.toNat, 81]
def k0_off83 (i : grid0.Coords) (c0_i32_1505 : BitVec 32) : Fin 2 → Nat :=
  let arg0 : BitVec 32 := BitVec.ofNat 32 (i 0).val
  let c4_i32_1504 : BitVec 32 := 4#32
  let v3078 : BitVec 32 := Scalar.muli arg0 c4_i32_1504
  let v3079 : BitVec 32 := Scalar.addi v3078 c0_i32_1505
  let v3080 : Index := Scalar.indexCast v3079
  let c82 : Index := 82#32
  ![v3080.toNat, 82]
def k0_off84 (i : grid0.Coords) (c0_i32_1523 : BitVec 32) : Fin 2 → Nat :=
  let arg0 : BitVec 32 := BitVec.ofNat 32 (i 0).val
  let c4_i32_1522 : BitVec 32 := 4#32
  let v3115 : BitVec 32 := Scalar.muli arg0 c4_i32_1522
  let v3116 : BitVec 32 := Scalar.addi v3115 c0_i32_1523
  let v3117 : Index := Scalar.indexCast v3116
  let c83 : Index := 83#32
  ![v3117.toNat, 83]
def k0_off85 (i : grid0.Coords) (c0_i32_1541 : BitVec 32) : Fin 2 → Nat :=
  let arg0 : BitVec 32 := BitVec.ofNat 32 (i 0).val
  let c4_i32_1540 : BitVec 32 := 4#32
  let v3152 : BitVec 32 := Scalar.muli arg0 c4_i32_1540
  let v3153 : BitVec 32 := Scalar.addi v3152 c0_i32_1541
  let v3154 : Index := Scalar.indexCast v3153
  let c84 : Index := 84#32
  ![v3154.toNat, 84]
def k0_off86 (i : grid0.Coords) (c0_i32_1559 : BitVec 32) : Fin 2 → Nat :=
  let arg0 : BitVec 32 := BitVec.ofNat 32 (i 0).val
  let c4_i32_1558 : BitVec 32 := 4#32
  let v3189 : BitVec 32 := Scalar.muli arg0 c4_i32_1558
  let v3190 : BitVec 32 := Scalar.addi v3189 c0_i32_1559
  let v3191 : Index := Scalar.indexCast v3190
  let c85 : Index := 85#32
  ![v3191.toNat, 85]
def k0_off87 (i : grid0.Coords) (c0_i32_1577 : BitVec 32) : Fin 2 → Nat :=
  let arg0 : BitVec 32 := BitVec.ofNat 32 (i 0).val
  let c4_i32_1576 : BitVec 32 := 4#32
  let v3226 : BitVec 32 := Scalar.muli arg0 c4_i32_1576
  let v3227 : BitVec 32 := Scalar.addi v3226 c0_i32_1577
  let v3228 : Index := Scalar.indexCast v3227
  let c86 : Index := 86#32
  ![v3228.toNat, 86]
def k0_off88 (i : grid0.Coords) (c0_i32_1595 : BitVec 32) : Fin 2 → Nat :=
  let arg0 : BitVec 32 := BitVec.ofNat 32 (i 0).val
  let c4_i32_1594 : BitVec 32 := 4#32
  let v3263 : BitVec 32 := Scalar.muli arg0 c4_i32_1594
  let v3264 : BitVec 32 := Scalar.addi v3263 c0_i32_1595
  let v3265 : Index := Scalar.indexCast v3264
  let c87 : Index := 87#32
  ![v3265.toNat, 87]
def k0_off89 (i : grid0.Coords) (c0_i32_1616 : BitVec 32) : Fin 2 → Nat :=
  let arg0 : BitVec 32 := BitVec.ofNat 32 (i 0).val
  let c4_i32_1615 : BitVec 32 := 4#32
  let v3304 : BitVec 32 := Scalar.muli arg0 c4_i32_1615
  let v3305 : BitVec 32 := Scalar.addi v3304 c0_i32_1616
  let v3306 : Index := Scalar.indexCast v3305
  let c88 : Index := 88#32
  ![v3306.toNat, 88]
def k0_off90 (i : grid0.Coords) (c0_i32_1634 : BitVec 32) : Fin 2 → Nat :=
  let arg0 : BitVec 32 := BitVec.ofNat 32 (i 0).val
  let c4_i32_1633 : BitVec 32 := 4#32
  let v3341 : BitVec 32 := Scalar.muli arg0 c4_i32_1633
  let v3342 : BitVec 32 := Scalar.addi v3341 c0_i32_1634
  let v3343 : Index := Scalar.indexCast v3342
  let c89 : Index := 89#32
  ![v3343.toNat, 89]
def k0_off91 (i : grid0.Coords) (c0_i32_1652 : BitVec 32) : Fin 2 → Nat :=
  let arg0 : BitVec 32 := BitVec.ofNat 32 (i 0).val
  let c4_i32_1651 : BitVec 32 := 4#32
  let v3378 : BitVec 32 := Scalar.muli arg0 c4_i32_1651
  let v3379 : BitVec 32 := Scalar.addi v3378 c0_i32_1652
  let v3380 : Index := Scalar.indexCast v3379
  let c90 : Index := 90#32
  ![v3380.toNat, 90]
def k0_off92 (i : grid0.Coords) (c0_i32_1670 : BitVec 32) : Fin 2 → Nat :=
  let arg0 : BitVec 32 := BitVec.ofNat 32 (i 0).val
  let c4_i32_1669 : BitVec 32 := 4#32
  let v3415 : BitVec 32 := Scalar.muli arg0 c4_i32_1669
  let v3416 : BitVec 32 := Scalar.addi v3415 c0_i32_1670
  let v3417 : Index := Scalar.indexCast v3416
  let c91 : Index := 91#32
  ![v3417.toNat, 91]
def k0_off93 (i : grid0.Coords) (c0_i32_1688 : BitVec 32) : Fin 2 → Nat :=
  let arg0 : BitVec 32 := BitVec.ofNat 32 (i 0).val
  let c4_i32_1687 : BitVec 32 := 4#32
  let v3452 : BitVec 32 := Scalar.muli arg0 c4_i32_1687
  let v3453 : BitVec 32 := Scalar.addi v3452 c0_i32_1688
  let v3454 : Index := Scalar.indexCast v3453
  let c92 : Index := 92#32
  ![v3454.toNat, 92]
def k0_off94 (i : grid0.Coords) (c0_i32_1706 : BitVec 32) : Fin 2 → Nat :=
  let arg0 : BitVec 32 := BitVec.ofNat 32 (i 0).val
  let c4_i32_1705 : BitVec 32 := 4#32
  let v3489 : BitVec 32 := Scalar.muli arg0 c4_i32_1705
  let v3490 : BitVec 32 := Scalar.addi v3489 c0_i32_1706
  let v3491 : Index := Scalar.indexCast v3490
  let c93 : Index := 93#32
  ![v3491.toNat, 93]
def k0_off95 (i : grid0.Coords) (c0_i32_1724 : BitVec 32) : Fin 2 → Nat :=
  let arg0 : BitVec 32 := BitVec.ofNat 32 (i 0).val
  let c4_i32_1723 : BitVec 32 := 4#32
  let v3526 : BitVec 32 := Scalar.muli arg0 c4_i32_1723
  let v3527 : BitVec 32 := Scalar.addi v3526 c0_i32_1724
  let v3528 : Index := Scalar.indexCast v3527
  let c94 : Index := 94#32
  ![v3528.toNat, 94]
def k0_off96 (i : grid0.Coords) (c0_i32_1742 : BitVec 32) : Fin 2 → Nat :=
  let arg0 : BitVec 32 := BitVec.ofNat 32 (i 0).val
  let c4_i32_1741 : BitVec 32 := 4#32
  let v3563 : BitVec 32 := Scalar.muli arg0 c4_i32_1741
  let v3564 : BitVec 32 := Scalar.addi v3563 c0_i32_1742
  let v3565 : Index := Scalar.indexCast v3564
  let c95 : Index := 95#32
  ![v3565.toNat, 95]
def k0_off97 (i : grid0.Coords) (c0_i32_1763 : BitVec 32) : Fin 2 → Nat :=
  let arg0 : BitVec 32 := BitVec.ofNat 32 (i 0).val
  let c4_i32_1762 : BitVec 32 := 4#32
  let v3604 : BitVec 32 := Scalar.muli arg0 c4_i32_1762
  let v3605 : BitVec 32 := Scalar.addi v3604 c0_i32_1763
  let v3606 : Index := Scalar.indexCast v3605
  let c96 : Index := 96#32
  ![v3606.toNat, 96]
def k0_off98 (i : grid0.Coords) (c0_i32_1781 : BitVec 32) : Fin 2 → Nat :=
  let arg0 : BitVec 32 := BitVec.ofNat 32 (i 0).val
  let c4_i32_1780 : BitVec 32 := 4#32
  let v3641 : BitVec 32 := Scalar.muli arg0 c4_i32_1780
  let v3642 : BitVec 32 := Scalar.addi v3641 c0_i32_1781
  let v3643 : Index := Scalar.indexCast v3642
  let c97 : Index := 97#32
  ![v3643.toNat, 97]
def k0_off99 (i : grid0.Coords) (c0_i32_1799 : BitVec 32) : Fin 2 → Nat :=
  let arg0 : BitVec 32 := BitVec.ofNat 32 (i 0).val
  let c4_i32_1798 : BitVec 32 := 4#32
  let v3678 : BitVec 32 := Scalar.muli arg0 c4_i32_1798
  let v3679 : BitVec 32 := Scalar.addi v3678 c0_i32_1799
  let v3680 : Index := Scalar.indexCast v3679
  let c98 : Index := 98#32
  ![v3680.toNat, 98]
def k0_off100 (i : grid0.Coords) (c0_i32_1817 : BitVec 32) : Fin 2 → Nat :=
  let arg0 : BitVec 32 := BitVec.ofNat 32 (i 0).val
  let c4_i32_1816 : BitVec 32 := 4#32
  let v3715 : BitVec 32 := Scalar.muli arg0 c4_i32_1816
  let v3716 : BitVec 32 := Scalar.addi v3715 c0_i32_1817
  let v3717 : Index := Scalar.indexCast v3716
  let c99 : Index := 99#32
  ![v3717.toNat, 99]
def k0_off101 (i : grid0.Coords) (c0_i32_1835 : BitVec 32) : Fin 2 → Nat :=
  let arg0 : BitVec 32 := BitVec.ofNat 32 (i 0).val
  let c4_i32_1834 : BitVec 32 := 4#32
  let v3752 : BitVec 32 := Scalar.muli arg0 c4_i32_1834
  let v3753 : BitVec 32 := Scalar.addi v3752 c0_i32_1835
  let v3754 : Index := Scalar.indexCast v3753
  let c100 : Index := 100#32
  ![v3754.toNat, 100]
def k0_off102 (i : grid0.Coords) (c0_i32_1853 : BitVec 32) : Fin 2 → Nat :=
  let arg0 : BitVec 32 := BitVec.ofNat 32 (i 0).val
  let c4_i32_1852 : BitVec 32 := 4#32
  let v3789 : BitVec 32 := Scalar.muli arg0 c4_i32_1852
  let v3790 : BitVec 32 := Scalar.addi v3789 c0_i32_1853
  let v3791 : Index := Scalar.indexCast v3790
  let c101 : Index := 101#32
  ![v3791.toNat, 101]
def k0_off103 (i : grid0.Coords) (c0_i32_1871 : BitVec 32) : Fin 2 → Nat :=
  let arg0 : BitVec 32 := BitVec.ofNat 32 (i 0).val
  let c4_i32_1870 : BitVec 32 := 4#32
  let v3826 : BitVec 32 := Scalar.muli arg0 c4_i32_1870
  let v3827 : BitVec 32 := Scalar.addi v3826 c0_i32_1871
  let v3828 : Index := Scalar.indexCast v3827
  let c102 : Index := 102#32
  ![v3828.toNat, 102]
def k0_off104 (i : grid0.Coords) (c0_i32_1889 : BitVec 32) : Fin 2 → Nat :=
  let arg0 : BitVec 32 := BitVec.ofNat 32 (i 0).val
  let c4_i32_1888 : BitVec 32 := 4#32
  let v3863 : BitVec 32 := Scalar.muli arg0 c4_i32_1888
  let v3864 : BitVec 32 := Scalar.addi v3863 c0_i32_1889
  let v3865 : Index := Scalar.indexCast v3864
  let c103 : Index := 103#32
  ![v3865.toNat, 103]
def k0_off105 (i : grid0.Coords) (c0_i32_1910 : BitVec 32) : Fin 2 → Nat :=
  let arg0 : BitVec 32 := BitVec.ofNat 32 (i 0).val
  let c4_i32_1909 : BitVec 32 := 4#32
  let v3904 : BitVec 32 := Scalar.muli arg0 c4_i32_1909
  let v3905 : BitVec 32 := Scalar.addi v3904 c0_i32_1910
  let v3906 : Index := Scalar.indexCast v3905
  let c104 : Index := 104#32
  ![v3906.toNat, 104]
def k0_off106 (i : grid0.Coords) (c0_i32_1928 : BitVec 32) : Fin 2 → Nat :=
  let arg0 : BitVec 32 := BitVec.ofNat 32 (i 0).val
  let c4_i32_1927 : BitVec 32 := 4#32
  let v3941 : BitVec 32 := Scalar.muli arg0 c4_i32_1927
  let v3942 : BitVec 32 := Scalar.addi v3941 c0_i32_1928
  let v3943 : Index := Scalar.indexCast v3942
  let c105 : Index := 105#32
  ![v3943.toNat, 105]
def k0_off107 (i : grid0.Coords) (c0_i32_1946 : BitVec 32) : Fin 2 → Nat :=
  let arg0 : BitVec 32 := BitVec.ofNat 32 (i 0).val
  let c4_i32_1945 : BitVec 32 := 4#32
  let v3978 : BitVec 32 := Scalar.muli arg0 c4_i32_1945
  let v3979 : BitVec 32 := Scalar.addi v3978 c0_i32_1946
  let v3980 : Index := Scalar.indexCast v3979
  let c106 : Index := 106#32
  ![v3980.toNat, 106]
def k0_off108 (i : grid0.Coords) (c0_i32_1964 : BitVec 32) : Fin 2 → Nat :=
  let arg0 : BitVec 32 := BitVec.ofNat 32 (i 0).val
  let c4_i32_1963 : BitVec 32 := 4#32
  let v4015 : BitVec 32 := Scalar.muli arg0 c4_i32_1963
  let v4016 : BitVec 32 := Scalar.addi v4015 c0_i32_1964
  let v4017 : Index := Scalar.indexCast v4016
  let c107 : Index := 107#32
  ![v4017.toNat, 107]
def k0_off109 (i : grid0.Coords) (c0_i32_1982 : BitVec 32) : Fin 2 → Nat :=
  let arg0 : BitVec 32 := BitVec.ofNat 32 (i 0).val
  let c4_i32_1981 : BitVec 32 := 4#32
  let v4052 : BitVec 32 := Scalar.muli arg0 c4_i32_1981
  let v4053 : BitVec 32 := Scalar.addi v4052 c0_i32_1982
  let v4054 : Index := Scalar.indexCast v4053
  let c108 : Index := 108#32
  ![v4054.toNat, 108]
def k0_off110 (i : grid0.Coords) (c0_i32_2000 : BitVec 32) : Fin 2 → Nat :=
  let arg0 : BitVec 32 := BitVec.ofNat 32 (i 0).val
  let c4_i32_1999 : BitVec 32 := 4#32
  let v4089 : BitVec 32 := Scalar.muli arg0 c4_i32_1999
  let v4090 : BitVec 32 := Scalar.addi v4089 c0_i32_2000
  let v4091 : Index := Scalar.indexCast v4090
  let c109 : Index := 109#32
  ![v4091.toNat, 109]
def k0_off111 (i : grid0.Coords) (c0_i32_2018 : BitVec 32) : Fin 2 → Nat :=
  let arg0 : BitVec 32 := BitVec.ofNat 32 (i 0).val
  let c4_i32_2017 : BitVec 32 := 4#32
  let v4126 : BitVec 32 := Scalar.muli arg0 c4_i32_2017
  let v4127 : BitVec 32 := Scalar.addi v4126 c0_i32_2018
  let v4128 : Index := Scalar.indexCast v4127
  let c110 : Index := 110#32
  ![v4128.toNat, 110]
def k0_off112 (i : grid0.Coords) (c0_i32_2036 : BitVec 32) : Fin 2 → Nat :=
  let arg0 : BitVec 32 := BitVec.ofNat 32 (i 0).val
  let c4_i32_2035 : BitVec 32 := 4#32
  let v4163 : BitVec 32 := Scalar.muli arg0 c4_i32_2035
  let v4164 : BitVec 32 := Scalar.addi v4163 c0_i32_2036
  let v4165 : Index := Scalar.indexCast v4164
  let c111 : Index := 111#32
  ![v4165.toNat, 111]
def k0_off113 (i : grid0.Coords) (c0_i32_2057 : BitVec 32) : Fin 2 → Nat :=
  let arg0 : BitVec 32 := BitVec.ofNat 32 (i 0).val
  let c4_i32_2056 : BitVec 32 := 4#32
  let v4204 : BitVec 32 := Scalar.muli arg0 c4_i32_2056
  let v4205 : BitVec 32 := Scalar.addi v4204 c0_i32_2057
  let v4206 : Index := Scalar.indexCast v4205
  let c112 : Index := 112#32
  ![v4206.toNat, 112]
def k0_off114 (i : grid0.Coords) (c0_i32_2075 : BitVec 32) : Fin 2 → Nat :=
  let arg0 : BitVec 32 := BitVec.ofNat 32 (i 0).val
  let c4_i32_2074 : BitVec 32 := 4#32
  let v4241 : BitVec 32 := Scalar.muli arg0 c4_i32_2074
  let v4242 : BitVec 32 := Scalar.addi v4241 c0_i32_2075
  let v4243 : Index := Scalar.indexCast v4242
  let c113 : Index := 113#32
  ![v4243.toNat, 113]
def k0_off115 (i : grid0.Coords) (c0_i32_2093 : BitVec 32) : Fin 2 → Nat :=
  let arg0 : BitVec 32 := BitVec.ofNat 32 (i 0).val
  let c4_i32_2092 : BitVec 32 := 4#32
  let v4278 : BitVec 32 := Scalar.muli arg0 c4_i32_2092
  let v4279 : BitVec 32 := Scalar.addi v4278 c0_i32_2093
  let v4280 : Index := Scalar.indexCast v4279
  let c114 : Index := 114#32
  ![v4280.toNat, 114]
def k0_off116 (i : grid0.Coords) (c0_i32_2111 : BitVec 32) : Fin 2 → Nat :=
  let arg0 : BitVec 32 := BitVec.ofNat 32 (i 0).val
  let c4_i32_2110 : BitVec 32 := 4#32
  let v4315 : BitVec 32 := Scalar.muli arg0 c4_i32_2110
  let v4316 : BitVec 32 := Scalar.addi v4315 c0_i32_2111
  let v4317 : Index := Scalar.indexCast v4316
  let c115 : Index := 115#32
  ![v4317.toNat, 115]
def k0_off117 (i : grid0.Coords) (c0_i32_2129 : BitVec 32) : Fin 2 → Nat :=
  let arg0 : BitVec 32 := BitVec.ofNat 32 (i 0).val
  let c4_i32_2128 : BitVec 32 := 4#32
  let v4352 : BitVec 32 := Scalar.muli arg0 c4_i32_2128
  let v4353 : BitVec 32 := Scalar.addi v4352 c0_i32_2129
  let v4354 : Index := Scalar.indexCast v4353
  let c116 : Index := 116#32
  ![v4354.toNat, 116]
def k0_off118 (i : grid0.Coords) (c0_i32_2147 : BitVec 32) : Fin 2 → Nat :=
  let arg0 : BitVec 32 := BitVec.ofNat 32 (i 0).val
  let c4_i32_2146 : BitVec 32 := 4#32
  let v4389 : BitVec 32 := Scalar.muli arg0 c4_i32_2146
  let v4390 : BitVec 32 := Scalar.addi v4389 c0_i32_2147
  let v4391 : Index := Scalar.indexCast v4390
  let c117 : Index := 117#32
  ![v4391.toNat, 117]
def k0_off119 (i : grid0.Coords) (c0_i32_2165 : BitVec 32) : Fin 2 → Nat :=
  let arg0 : BitVec 32 := BitVec.ofNat 32 (i 0).val
  let c4_i32_2164 : BitVec 32 := 4#32
  let v4426 : BitVec 32 := Scalar.muli arg0 c4_i32_2164
  let v4427 : BitVec 32 := Scalar.addi v4426 c0_i32_2165
  let v4428 : Index := Scalar.indexCast v4427
  let c118 : Index := 118#32
  ![v4428.toNat, 118]
def k0_off120 (i : grid0.Coords) (c0_i32_2183 : BitVec 32) : Fin 2 → Nat :=
  let arg0 : BitVec 32 := BitVec.ofNat 32 (i 0).val
  let c4_i32_2182 : BitVec 32 := 4#32
  let v4463 : BitVec 32 := Scalar.muli arg0 c4_i32_2182
  let v4464 : BitVec 32 := Scalar.addi v4463 c0_i32_2183
  let v4465 : Index := Scalar.indexCast v4464
  let c119 : Index := 119#32
  ![v4465.toNat, 119]
def k0_off121 (i : grid0.Coords) (c0_i32_2204 : BitVec 32) : Fin 2 → Nat :=
  let arg0 : BitVec 32 := BitVec.ofNat 32 (i 0).val
  let c4_i32_2203 : BitVec 32 := 4#32
  let v4504 : BitVec 32 := Scalar.muli arg0 c4_i32_2203
  let v4505 : BitVec 32 := Scalar.addi v4504 c0_i32_2204
  let v4506 : Index := Scalar.indexCast v4505
  let c120 : Index := 120#32
  ![v4506.toNat, 120]
def k0_off122 (i : grid0.Coords) (c0_i32_2222 : BitVec 32) : Fin 2 → Nat :=
  let arg0 : BitVec 32 := BitVec.ofNat 32 (i 0).val
  let c4_i32_2221 : BitVec 32 := 4#32
  let v4541 : BitVec 32 := Scalar.muli arg0 c4_i32_2221
  let v4542 : BitVec 32 := Scalar.addi v4541 c0_i32_2222
  let v4543 : Index := Scalar.indexCast v4542
  let c121 : Index := 121#32
  ![v4543.toNat, 121]
def k0_off123 (i : grid0.Coords) (c0_i32_2240 : BitVec 32) : Fin 2 → Nat :=
  let arg0 : BitVec 32 := BitVec.ofNat 32 (i 0).val
  let c4_i32_2239 : BitVec 32 := 4#32
  let v4578 : BitVec 32 := Scalar.muli arg0 c4_i32_2239
  let v4579 : BitVec 32 := Scalar.addi v4578 c0_i32_2240
  let v4580 : Index := Scalar.indexCast v4579
  let c122 : Index := 122#32
  ![v4580.toNat, 122]
def k0_off124 (i : grid0.Coords) (c0_i32_2258 : BitVec 32) : Fin 2 → Nat :=
  let arg0 : BitVec 32 := BitVec.ofNat 32 (i 0).val
  let c4_i32_2257 : BitVec 32 := 4#32
  let v4615 : BitVec 32 := Scalar.muli arg0 c4_i32_2257
  let v4616 : BitVec 32 := Scalar.addi v4615 c0_i32_2258
  let v4617 : Index := Scalar.indexCast v4616
  let c123 : Index := 123#32
  ![v4617.toNat, 123]
def k0_off125 (i : grid0.Coords) (c0_i32_2276 : BitVec 32) : Fin 2 → Nat :=
  let arg0 : BitVec 32 := BitVec.ofNat 32 (i 0).val
  let c4_i32_2275 : BitVec 32 := 4#32
  let v4652 : BitVec 32 := Scalar.muli arg0 c4_i32_2275
  let v4653 : BitVec 32 := Scalar.addi v4652 c0_i32_2276
  let v4654 : Index := Scalar.indexCast v4653
  let c124 : Index := 124#32
  ![v4654.toNat, 124]
def k0_off126 (i : grid0.Coords) (c0_i32_2294 : BitVec 32) : Fin 2 → Nat :=
  let arg0 : BitVec 32 := BitVec.ofNat 32 (i 0).val
  let c4_i32_2293 : BitVec 32 := 4#32
  let v4689 : BitVec 32 := Scalar.muli arg0 c4_i32_2293
  let v4690 : BitVec 32 := Scalar.addi v4689 c0_i32_2294
  let v4691 : Index := Scalar.indexCast v4690
  let c125 : Index := 125#32
  ![v4691.toNat, 125]
def k0_off127 (i : grid0.Coords) (c0_i32_2312 : BitVec 32) : Fin 2 → Nat :=
  let arg0 : BitVec 32 := BitVec.ofNat 32 (i 0).val
  let c4_i32_2311 : BitVec 32 := 4#32
  let v4726 : BitVec 32 := Scalar.muli arg0 c4_i32_2311
  let v4727 : BitVec 32 := Scalar.addi v4726 c0_i32_2312
  let v4728 : Index := Scalar.indexCast v4727
  let c126 : Index := 126#32
  ![v4728.toNat, 126]
def k0_off128 (i : grid0.Coords) (c0_i32_2330 : BitVec 32) : Fin 2 → Nat :=
  let arg0 : BitVec 32 := BitVec.ofNat 32 (i 0).val
  let c4_i32_2329 : BitVec 32 := 4#32
  let v4763 : BitVec 32 := Scalar.muli arg0 c4_i32_2329
  let v4764 : BitVec 32 := Scalar.addi v4763 c0_i32_2330
  let v4765 : Index := Scalar.indexCast v4764
  let c127 : Index := 127#32
  ![v4765.toNat, 127]
def k0_off129 (i : grid0.Coords) (c0_i32_2351 : BitVec 32) : Fin 2 → Nat :=
  let arg0 : BitVec 32 := BitVec.ofNat 32 (i 0).val
  let c4_i32_2350 : BitVec 32 := 4#32
  let v4804 : BitVec 32 := Scalar.muli arg0 c4_i32_2350
  let v4805 : BitVec 32 := Scalar.addi v4804 c0_i32_2351
  let v4806 : Index := Scalar.indexCast v4805
  let c128_2352 : Index := 128#32
  ![v4806.toNat, 128]
def k0_off130 (i : grid0.Coords) (c0_i32_2370 : BitVec 32) : Fin 2 → Nat :=
  let arg0 : BitVec 32 := BitVec.ofNat 32 (i 0).val
  let c4_i32_2369 : BitVec 32 := 4#32
  let v4841 : BitVec 32 := Scalar.muli arg0 c4_i32_2369
  let v4842 : BitVec 32 := Scalar.addi v4841 c0_i32_2370
  let v4843 : Index := Scalar.indexCast v4842
  let c129 : Index := 129#32
  ![v4843.toNat, 129]
def k0_off131 (i : grid0.Coords) (c0_i32_2388 : BitVec 32) : Fin 2 → Nat :=
  let arg0 : BitVec 32 := BitVec.ofNat 32 (i 0).val
  let c4_i32_2387 : BitVec 32 := 4#32
  let v4878 : BitVec 32 := Scalar.muli arg0 c4_i32_2387
  let v4879 : BitVec 32 := Scalar.addi v4878 c0_i32_2388
  let v4880 : Index := Scalar.indexCast v4879
  let c130 : Index := 130#32
  ![v4880.toNat, 130]
def k0_off132 (i : grid0.Coords) (c0_i32_2406 : BitVec 32) : Fin 2 → Nat :=
  let arg0 : BitVec 32 := BitVec.ofNat 32 (i 0).val
  let c4_i32_2405 : BitVec 32 := 4#32
  let v4915 : BitVec 32 := Scalar.muli arg0 c4_i32_2405
  let v4916 : BitVec 32 := Scalar.addi v4915 c0_i32_2406
  let v4917 : Index := Scalar.indexCast v4916
  let c131 : Index := 131#32
  ![v4917.toNat, 131]
def k0_off133 (i : grid0.Coords) (c0_i32_2424 : BitVec 32) : Fin 2 → Nat :=
  let arg0 : BitVec 32 := BitVec.ofNat 32 (i 0).val
  let c4_i32_2423 : BitVec 32 := 4#32
  let v4952 : BitVec 32 := Scalar.muli arg0 c4_i32_2423
  let v4953 : BitVec 32 := Scalar.addi v4952 c0_i32_2424
  let v4954 : Index := Scalar.indexCast v4953
  let c132 : Index := 132#32
  ![v4954.toNat, 132]
def k0_off134 (i : grid0.Coords) (c0_i32_2442 : BitVec 32) : Fin 2 → Nat :=
  let arg0 : BitVec 32 := BitVec.ofNat 32 (i 0).val
  let c4_i32_2441 : BitVec 32 := 4#32
  let v4989 : BitVec 32 := Scalar.muli arg0 c4_i32_2441
  let v4990 : BitVec 32 := Scalar.addi v4989 c0_i32_2442
  let v4991 : Index := Scalar.indexCast v4990
  let c133 : Index := 133#32
  ![v4991.toNat, 133]
def k0_off135 (i : grid0.Coords) (c0_i32_2460 : BitVec 32) : Fin 2 → Nat :=
  let arg0 : BitVec 32 := BitVec.ofNat 32 (i 0).val
  let c4_i32_2459 : BitVec 32 := 4#32
  let v5026 : BitVec 32 := Scalar.muli arg0 c4_i32_2459
  let v5027 : BitVec 32 := Scalar.addi v5026 c0_i32_2460
  let v5028 : Index := Scalar.indexCast v5027
  let c134 : Index := 134#32
  ![v5028.toNat, 134]
def k0_off136 (i : grid0.Coords) (c0_i32_2478 : BitVec 32) : Fin 2 → Nat :=
  let arg0 : BitVec 32 := BitVec.ofNat 32 (i 0).val
  let c4_i32_2477 : BitVec 32 := 4#32
  let v5063 : BitVec 32 := Scalar.muli arg0 c4_i32_2477
  let v5064 : BitVec 32 := Scalar.addi v5063 c0_i32_2478
  let v5065 : Index := Scalar.indexCast v5064
  let c135 : Index := 135#32
  ![v5065.toNat, 135]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x17408 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x136x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S17408x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S40x136 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S2x128x17408 : Shape := ⟨3, ![2, 128, 17408]⟩
abbrev S2x128x136 : Shape := ⟨3, ![2, 128, 136]⟩
abbrev S17408x5120 : Shape := ⟨2, ![17408, 5120]⟩
abbrev S136x40 : Shape := ⟨2, ![136, 40]⟩
abbrev S2x128x5120 : Shape := ⟨3, ![2, 128, 5120]⟩
abbrev S256x17408 : Shape := ⟨2, ![256, 17408]⟩
abbrev S256x136 : Shape := ⟨2, ![256, 136]⟩
abbrev S256x5120 : Shape := ⟨2, ![256, 5120]⟩
abbrev S256x136x128 : Shape := ⟨3, ![256, 136, 128]⟩
abbrev S256x136x1 : Shape := ⟨3, ![256, 136, 1]⟩
abbrev S136x128x40x128 : Shape := ⟨4, ![136, 128, 40, 128]⟩
abbrev S136x1x40x1 : Shape := ⟨4, ![136, 1, 40, 1]⟩

abbrev nBuf : Space → Nat
  | .hbm => 9
  | .vmem => 6
  | .smem => 0
  | _ => 0

abbrev bufTy : (tb : Table) → Fin (tcTables nBuf tb) → BufTy
  | .hbm, ⟨0, _⟩ => ⟨S2x128x17408, .fp8e4m3⟩
  | .hbm, ⟨1, _⟩ => ⟨S2x128x136, .f32⟩
  | .hbm, ⟨2, _⟩ => ⟨S17408x5120, .fp8e4m3⟩
  | .hbm, ⟨3, _⟩ => ⟨S136x40, .f32⟩
  | .hbm, ⟨4, _⟩ => ⟨S2x128x5120, .bf16⟩
  | .hbm, ⟨5, _⟩ => ⟨S256x17408, .fp8e4m3⟩
  | .hbm, ⟨6, _⟩ => ⟨S256x136, .f32⟩
  | .hbm, ⟨7, _⟩ => ⟨S256x5120, .bf16⟩
  | .hbm, ⟨8, _⟩ => ⟨S256x5120, .bf16⟩
  | .local _ .vmem, ⟨0, _⟩ => ⟨S256x17408, .fp8e4m3⟩
  | .local _ .vmem, ⟨1, _⟩ => ⟨S256x136, .f32⟩
  | .local _ .vmem, ⟨2, _⟩ => ⟨S17408x5120, .fp8e4m3⟩
  | .local _ .vmem, ⟨3, _⟩ => ⟨S136x40, .f32⟩
  | .local _ .vmem, ⟨4, _⟩ => ⟨S256x5120, .bf16⟩
  | .local _ .vmem, ⟨5, _⟩ => ⟨S256x5120, .bf16⟩
  | _, _ => ⟨S2x128x17408, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S256x17408 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x136 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S17408x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S136x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Qkv.lean ====
abbrev S256x5120 : Shape := ⟨2, ![256, 5120]⟩
abbrev S5120 : Shape := ⟨1, ![5120]⟩
abbrev S5120x7680 : Shape := ⟨2, ![5120, 7680]⟩
abbrev S40x60 : Shape := ⟨2, ![40, 60]⟩
abbrev S2x128 : Shape := ⟨2, ![2, 128]⟩
abbrev S80 : Shape := ⟨1, ![80]⟩
abbrev S_ : Shape := ⟨0, ![]⟩
abbrev S1x5120 : Shape := ⟨2, ![1, 5120]⟩
abbrev S80x1 : Shape := ⟨2, ![80, 1]⟩
abbrev S2x40x128 : Shape := ⟨3, ![2, 40, 128]⟩
abbrev S2x32x160x128 : Shape := ⟨4, ![2, 32, 160, 128]⟩
abbrev S2x8x160x128 : Shape := ⟨4, ![2, 8, 160, 128]⟩
abbrev S2x8x128 : Shape := ⟨3, ![2, 8, 128]⟩
abbrev S5120x1280 : Shape := ⟨2, ![5120, 1280]⟩
abbrev S2x80x128 : Shape := ⟨3, ![2, 80, 128]⟩
abbrev S256 : Shape := ⟨1, ![256]⟩
abbrev S256x1 : Shape := ⟨2, ![256, 1]⟩
abbrev S256x128 : Shape := ⟨2, ![256, 128]⟩
abbrev S1x128 : Shape := ⟨2, ![1, 128]⟩
abbrev S128x128 : Shape := ⟨2, ![128, 128]⟩
abbrev S40x128 : Shape := ⟨2, ![40, 128]⟩
abbrev S1x40x128 : Shape := ⟨3, ![1, 40, 128]⟩
abbrev S80x128 : Shape := ⟨2, ![80, 128]⟩
abbrev S1x80x128 : Shape := ⟨3, ![1, 80, 128]⟩
abbrev S256x1280 : Shape := ⟨2, ![256, 1280]⟩
abbrev S1x1 : Shape := ⟨2, ![1, 1]⟩
abbrev S128x1280 : Shape := ⟨2, ![128, 1280]⟩
abbrev S1024x1280 : Shape := ⟨2, ![1024, 1280]⟩
abbrev S256x1024 : Shape := ⟨2, ![256, 1024]⟩
abbrev S1280x256 : Shape := ⟨2, ![1280, 256]⟩
abbrev S160x128 : Shape := ⟨2, ![160, 128]⟩
abbrev S1x1x160x128 : Shape := ⟨4, ![1, 1, 160, 128]⟩
abbrev S128 : Shape := ⟨1, ![128]⟩
abbrev S1x1x128 : Shape := ⟨3, ![1, 1, 128]⟩

abbrev nBuf : Space → Nat
  | .hbm => 30
  | .vmem => 17
  | .smem => 1
  | _ => 0

abbrev bufTy : (tb : Table) → Fin (tcTables nBuf tb) → BufTy
  | .hbm, ⟨0, _⟩ => ⟨S256x5120, .bf16⟩
  | .hbm, ⟨1, _⟩ => ⟨S5120, .f32⟩
  | .hbm, ⟨2, _⟩ => ⟨S5120x7680, .fp8e4m3⟩
  | .hbm, ⟨3, _⟩ => ⟨S40x60, .f32⟩
  | .hbm, ⟨4, _⟩ => ⟨S2x128, .i32⟩
  | .hbm, ⟨5, _⟩ => ⟨S80, .f32⟩
  | .hbm, ⟨6, _⟩ => ⟨S_, .f32⟩
  | .hbm, ⟨7, _⟩ => ⟨S80, .f32⟩
  | .hbm, ⟨8, _⟩ => ⟨S80, .f32⟩
  | .hbm, ⟨9, _⟩ => ⟨S_, .f32⟩
  | .hbm, ⟨10, _⟩ => ⟨S80, .f32⟩
  | .hbm, ⟨11, _⟩ => ⟨S80, .f32⟩
  | .hbm, ⟨12, _⟩ => ⟨S_, .f32⟩
  | .hbm, ⟨13, _⟩ => ⟨S80, .f32⟩
  | .hbm, ⟨14, _⟩ => ⟨S80, .f32⟩
  | .hbm, ⟨15, _⟩ => ⟨S_, .f32⟩
  | .hbm, ⟨16, _⟩ => ⟨S80, .f32⟩
  | .hbm, ⟨17, _⟩ => ⟨S80, .f32⟩
  | .hbm, ⟨18, _⟩ => ⟨S_, .f32⟩
  | .hbm, ⟨19, _⟩ => ⟨S80, .f32⟩
  | .hbm, ⟨20, _⟩ => ⟨S80, .f32⟩
  | .hbm, ⟨21, _⟩ => ⟨S1x5120, .f32⟩
  | .hbm, ⟨22, _⟩ => ⟨S80x1, .f32⟩
  | .hbm, ⟨23, _⟩ => ⟨S256x5120, .fp8e4m3⟩
  | .hbm, ⟨24, _⟩ => ⟨S2x40x128, .f32⟩
  | .hbm, ⟨25, _⟩ => ⟨S2x32x160x128, .bf16⟩
  | .hbm, ⟨26, _⟩ => ⟨S2x8x160x128, .fp8e4m3⟩
  | .hbm, ⟨27, _⟩ => ⟨S2x8x128, .f32⟩
  | .hbm, ⟨28, _⟩ => ⟨S2x8x160x128, .fp8e4m3⟩
  | .hbm, ⟨29, _⟩ => ⟨S2x8x128, .f32⟩
  | .local _ .vmem, ⟨0, _⟩ => ⟨S256x5120, .bf16⟩
  | .local _ .vmem, ⟨1, _⟩ => ⟨S1x5120, .f32⟩
  | .local _ .vmem, ⟨2, _⟩ => ⟨S2x128, .i32⟩
  | .local _ .vmem, ⟨3, _⟩ => ⟨S80x1, .f32⟩
  | .local _ .vmem, ⟨4, _⟩ => ⟨S5120x1280, .fp8e4m3⟩
  | .local _ .vmem, ⟨5, _⟩ => ⟨S5120x1280, .fp8e4m3⟩
  | .local _ .vmem, ⟨6, _⟩ => ⟨S256x5120, .fp8e4m3⟩
  | .local _ .vmem, ⟨7, _⟩ => ⟨S2x40x128, .f32⟩
  | .local _ .vmem, ⟨8, _⟩ => ⟨S2x8x160x128, .bf16⟩
  | .local _ .vmem, ⟨9, _⟩ => ⟨S2x8x160x128, .bf16⟩
  | .local _ .vmem, ⟨10, _⟩ => ⟨S2x8x160x128, .fp8e4m3⟩
  | .local _ .vmem, ⟨11, _⟩ => ⟨S2x8x128, .f32⟩
  | .local _ .vmem, ⟨12, _⟩ => ⟨S2x8x160x128, .fp8e4m3⟩
  | .local _ .vmem, ⟨13, _⟩ => ⟨S2x8x128, .f32⟩
  | .local _ .vmem, ⟨14, _⟩ => ⟨S256x5120, .bf16⟩
  | .local _ .vmem, ⟨15, _⟩ => ⟨S2x80x128, .f32⟩
  | .local _ .vmem, ⟨16, _⟩ => ⟨S2x80x128, .f32⟩
  | .local _ .smem, ⟨0, _⟩ => ⟨S40x60, .f32⟩
  | _, _ => ⟨S256x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v13_3 : Ref sig .tc := ⟨.hbm, 26, rfl⟩
abbrev main_v13_4 : Ref sig .tc := ⟨.hbm, 27, rfl⟩
abbrev main_v13_5 : Ref sig .tc := ⟨.hbm, 28, rfl⟩
abbrev main_v13_6 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_stg5_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem10_0 : DmaSem sig := 12
abbrev cc0_sem11_0 : DmaSem sig := 13
abbrev cc0_sem12_0 : DmaSem sig := 14

abbrev nD : Nat := 1
abbrev τ : Topo := Topo.v7x

variable {F : FTy → Type} [FloatOps F]

abbrev grid0 : Pipeline.Grid := ⟨1, ![6], ![false]⟩

def k0_off1 (i : grid0.Coords) (c0_i32_1 : BitVec 32) : Fin 2 → Nat :=
  let c0 : Index := 0#32
  let arg0 : BitVec 32 := BitVec.ofNat 32 (i 0).val
  let c10_i32 : BitVec 32 := 10#32
  let v4 : BitVec 32 := Scalar.muli arg0 c10_i32
  let v5 : BitVec 32 := Scalar.addi v4 c0_i32_1
  let v6 : Index := Scalar.indexCast v5
  ![0, v6.toNat]
def k0_off2 (i : grid0.Coords) (c0_i32_32 : BitVec 32) : Fin 2 → Nat :=
  let c1 : Index := 1#32
  let arg0 : BitVec 32 := BitVec.ofNat 32 (i 0).val
  let c10_i32_31 : BitVec 32 := 10#32
  let v95 : BitVec 32 := Scalar.muli arg0 c10_i32_31
  let v96 : BitVec 32 := Scalar.addi v95 c0_i32_32
  let v97 : Index := Scalar.indexCast v96
  ![1, v97.toNat]
def k0_off3 (i : grid0.Coords) (c0_i32_81 : BitVec 32) : Fin 2 → Nat :=
  let c2 : Index := 2#32
  let arg0 : BitVec 32 := BitVec.ofNat 32 (i 0).val
  let c10_i32_80 : BitVec 32 := 10#32
  let v186 : BitVec 32 := Scalar.muli arg0 c10_i32_80
  let v187 : BitVec 32 := Scalar.addi v186 c0_i32_81
  let v188 : Index := Scalar.indexCast v187
  ![2, v188.toNat]
def k0_off4 (i : grid0.Coords) (c0_i32_130 : BitVec 32) : Fin 2 → Nat :=
  let c3 : Index := 3#32
  let arg0 : BitVec 32 := BitVec.ofNat 32 (i 0).val
  let c10_i32_129 : BitVec 32 := 10#32
  let v277 : BitVec 32 := Scalar.muli arg0 c10_i32_129
  let v278 : BitVec 32 := Scalar.addi v277 c0_i32_130
  let v279 : Index := Scalar.indexCast v278
  ![3, v279.toNat]
def k0_off5 (i : grid0.Coords) (c0_i32_179 : BitVec 32) : Fin 2 → Nat :=
  let c4 : Index := 4#32
  let arg0 : BitVec 32 := BitVec.ofNat 32 (i 0).val
  let c10_i32_178 : BitVec 32 := 10#32
  let v368 : BitVec 32 := Scalar.muli arg0 c10_i32_178
  let v369 : BitVec 32 := Scalar.addi v368 c0_i32_179
  let v370 : Index := Scalar.indexCast v369
  ![4, v370.toNat]
def k0_off6 (i : grid0.Coords) (c0_i32_228 : BitVec 32) : Fin 2 → Nat :=
  let c5 : Index := 5#32
  let arg0 : BitVec 32 := BitVec.ofNat 32 (i 0).val
  let c10_i32_227 : BitVec 32 := 10#32
  let v459 : BitVec 32 := Scalar.muli arg0 c10_i32_227
  let v460 : BitVec 32 := Scalar.addi v459 c0_i32_228
  let v461 : Index := Scalar.indexCast v460
  ![5, v461.toNat]
def k0_off7 (i : grid0.Coords) (c0_i32_277 : BitVec 32) : Fin 2 → Nat :=
  let c6 : Index := 6#32
  let arg0 : BitVec 32 := BitVec.ofNat 32 (i 0).val
  let c10_i32_276 : BitVec 32 := 10#32
  let v550 : BitVec 32 := Scalar.muli arg0 c10_i32_276
  let v551 : BitVec 32 := Scalar.addi v550 c0_i32_277
  let v552 : Index := Scalar.indexCast v551
  ![6, v552.toNat]
def k0_off8 (i : grid0.Coords) (c0_i32_326 : BitVec 32) : Fin 2 → Nat :=
  let c7 : Index := 7#32
  let arg0 : BitVec 32 := BitVec.ofNat 32 (i 0).val
  let c10_i32_325 : BitVec 32 := 10#32
  let v641 : BitVec 32 := Scalar.muli arg0 c10_i32_325
  let v642 : BitVec 32 := Scalar.addi v641 c0_i32_326
  let v643 : Index := Scalar.indexCast v642
  ![7, v643.toNat]
def k0_off9 (i : grid0.Coords) (c0_i32_378 : BitVec 32) : Fin 2 → Nat :=
  let c8 : Index := 8#32
  let arg0 : BitVec 32 := BitVec.ofNat 32 (i 0).val
  let c10_i32_377 : BitVec 32 := 10#32
  let v736 : BitVec 32 := Scalar.muli arg0 c10_i32_377
  let v737 : BitVec 32 := Scalar.addi v736 c0_i32_378
  let v738 : Index := Scalar.indexCast v737
  ![8, v738.toNat]
def k0_off10 (i : grid0.Coords) (c0_i32_427 : BitVec 32) : Fin 2 → Nat :=
  let c9 : Index := 9#32
  let arg0 : BitVec 32 := BitVec.ofNat 32 (i 0).val
  let c10_i32_426 : BitVec 32 := 10#32
  let v827 : BitVec 32 := Scalar.muli arg0 c10_i32_426
  let v828 : BitVec 32 := Scalar.addi v827 c0_i32_427
  let v829 : Index := Scalar.indexCast v828
  ![9, v829.toNat]
def k0_off11 (i : grid0.Coords) (c0_i32_476 : BitVec 32) : Fin 2 → Nat :=
  let c10 : Index := 10#32
  let arg0 : BitVec 32 := BitVec.ofNat 32 (i 0).val
  let c10_i32_475 : BitVec 32 := 10#32
  let v918 : BitVec 32 := Scalar.muli arg0 c10_i32_475
  let v919 : BitVec 32 := Scalar.addi v918 c0_i32_476
  let v920 : Index := Scalar.indexCast v919
  ![10, v920.toNat]
def k0_off12 (i : grid0.Coords) (c0_i32_524 : BitVec 32) : Fin 2 → Nat :=
  let c11 : Index := 11#32
  let arg0 : BitVec 32 := BitVec.ofNat 32 (i 0).val
  let c10_i32_523 : BitVec 32 := 10#32
  let v1009 : BitVec 32 := Scalar.muli arg0 c10_i32_523
  let v1010 : BitVec 32 := Scalar.addi v1009 c0_i32_524
  let v1011 : Index := Scalar.indexCast v1010
  ![11, v1011.toNat]
def k0_off13 (i : grid0.Coords) (c0_i32_572 : BitVec 32) : Fin 2 → Nat :=
  let c12 : Index := 12#32
  let arg0 : BitVec 32 := BitVec.ofNat 32 (i 0).val
  let c10_i32_571 : BitVec 32 := 10#32
  let v1100 : BitVec 32 := Scalar.muli arg0 c10_i32_571
  let v1101 : BitVec 32 := Scalar.addi v1100 c0_i32_572
  let v1102 : Index := Scalar.indexCast v1101
  ![12, v1102.toNat]
def k0_off14 (i : grid0.Coords) (c0_i32_620 : BitVec 32) : Fin 2 → Nat :=
  let c13 : Index := 13#32
  let arg0 : BitVec 32 := BitVec.ofNat 32 (i 0).val
  let c10_i32_619 : BitVec 32 := 10#32
  let v1191 : BitVec 32 := Scalar.muli arg0 c10_i32_619
  let v1192 : BitVec 32 := Scalar.addi v1191 c0_i32_620
  let v1193 : Index := Scalar.indexCast v1192
  ![13, v1193.toNat]
def k0_off15 (i : grid0.Coords) (c0_i32_668 : BitVec 32) : Fin 2 → Nat :=
  let c14 : Index := 14#32
  let arg0 : BitVec 32 := BitVec.ofNat 32 (i 0).val
  let c10_i32_667 : BitVec 32 := 10#32
  let v1282 : BitVec 32 := Scalar.muli arg0 c10_i32_667
  let v1283 : BitVec 32 := Scalar.addi v1282 c0_i32_668
  let v1284 : Index := Scalar.indexCast v1283
  ![14, v1284.toNat]
def k0_off16 (i : grid0.Coords) (c0_i32_716 : BitVec 32) : Fin 2 → Nat :=
  let c15 : Index := 15#32
  let arg0 : BitVec 32 := BitVec.ofNat 32 (i 0).val
  let c10_i32_715 : BitVec 32 := 10#32
  let v1373 : BitVec 32 := Scalar.muli arg0 c10_i32_715
  let v1374 : BitVec 32 := Scalar.addi v1373 c0_i32_716
  let v1375 : Index := Scalar.indexCast v1374
  ![15, v1375.toNat]
def k0_off17 (i : grid0.Coords) (c0_i32_767 : BitVec 32) : Fin 2 → Nat :=
  let c16 : Index := 16#32
  let arg0 : BitVec 32 := BitVec.ofNat 32 (i 0).val
  let c10_i32_766 : BitVec 32 := 10#32
  let v1468 : BitVec 32 := Scalar.muli arg0 c10_i32_766
  let v1469 : BitVec 32 := Scalar.addi v1468 c0_i32_767
  let v1470 : Index := Scalar.indexCast v1469
  ![16, v1470.toNat]
def k0_off18 (i : grid0.Coords) (c0_i32_815 : BitVec 32) : Fin 2 → Nat :=
  let c17 : Index := 17#32
  let arg0 : BitVec 32 := BitVec.ofNat 32 (i 0).val
  let c10_i32_814 : BitVec 32 := 10#32
  let v1559 : BitVec 32 := Scalar.muli arg0 c10_i32_814
  let v1560 : BitVec 32 := Scalar.addi v1559 c0_i32_815
  let v1561 : Index := Scalar.indexCast v1560
  ![17, v1561.toNat]
def k0_off19 (i : grid0.Coords) (c0_i32_863 : BitVec 32) : Fin 2 → Nat :=
  let c18 : Index := 18#32
  let arg0 : BitVec 32 := BitVec.ofNat 32 (i 0).val
  let c10_i32_862 : BitVec 32 := 10#32
  let v1650 : BitVec 32 := Scalar.muli arg0 c10_i32_862
  let v1651 : BitVec 32 := Scalar.addi v1650 c0_i32_863
  let v1652 : Index := Scalar.indexCast v1651
  ![18, v1652.toNat]
def k0_off20 (i : grid0.Coords) (c0_i32_911 : BitVec 32) : Fin 2 → Nat :=
  let c19 : Index := 19#32
  let arg0 : BitVec 32 := BitVec.ofNat 32 (i 0).val
  let c10_i32_910 : BitVec 32 := 10#32
  let v1741 : BitVec 32 := Scalar.muli arg0 c10_i32_910
  let v1742 : BitVec 32 := Scalar.addi v1741 c0_i32_911
  let v1743 : Index := Scalar.indexCast v1742
  ![19, v1743.toNat]
def k0_off21 (i : grid0.Coords) (c0_i32_959 : BitVec 32) : Fin 2 → Nat :=
  let c20 : Index := 20#32
  let arg0 : BitVec 32 := BitVec.ofNat 32 (i 0).val
  let c10_i32_958 : BitVec 32 := 10#32
  let v1832 : BitVec 32 := Scalar.muli arg0 c10_i32_958
  let v1833 : BitVec 32 := Scalar.addi v1832 c0_i32_959
  let v1834 : Index := Scalar.indexCast v1833
  ![20, v1834.toNat]
def k0_off22 (i : grid0.Coords) (c0_i32_1007 : BitVec 32) : Fin 2 → Nat :=
  let c21 : Index := 21#32
  let arg0 : BitVec 32 := BitVec.ofNat 32 (i 0).val
  let c10_i32_1006 : BitVec 32 := 10#32
  let v1923 : BitVec 32 := Scalar.muli arg0 c10_i32_1006
  let v1924 : BitVec 32 := Scalar.addi v1923 c0_i32_1007
  let v1925 : Index := Scalar.indexCast v1924
  ![21, v1925.toNat]
def k0_off23 (i : grid0.Coords) (c0_i32_1055 : BitVec 32) : Fin 2 → Nat :=
  let c22 : Index := 22#32
  let arg0 : BitVec 32 := BitVec.ofNat 32 (i 0).val
  let c10_i32_1054 : BitVec 32 := 10#32
  let v2014 : BitVec 32 := Scalar.muli arg0 c10_i32_1054
  let v2015 : BitVec 32 := Scalar.addi v2014 c0_i32_1055
  let v2016 : Index := Scalar.indexCast v2015
  ![22, v2016.toNat]
def k0_off24 (i : grid0.Coords) (c0_i32_1103 : BitVec 32) : Fin 2 → Nat :=
  let c23 : Index := 23#32
  let arg0 : BitVec 32 := BitVec.ofNat 32 (i 0).val
  let c10_i32_1102 : BitVec 32 := 10#32
  let v2105 : BitVec 32 := Scalar.muli arg0 c10_i32_1102
  let v2106 : BitVec 32 := Scalar.addi v2105 c0_i32_1103
  let v2107 : Index := Scalar.indexCast v2106
  ![23, v2107.toNat]
def k0_off25 (i : grid0.Coords) (c0_i32_1154 : BitVec 32) : Fin 2 → Nat :=
  let c24 : Index := 24#32
  let arg0 : BitVec 32 := BitVec.ofNat 32 (i 0).val
  let c10_i32_1153 : BitVec 32 := 10#32
  let v2200 : BitVec 32 := Scalar.muli arg0 c10_i32_1153
  let v2201 : BitVec 32 := Scalar.addi v2200 c0_i32_1154
  let v2202 : Index := Scalar.indexCast v2201
  ![24, v2202.toNat]
def k0_off26 (i : grid0.Coords) (c0_i32_1202 : BitVec 32) : Fin 2 → Nat :=
  let c25 : Index := 25#32
  let arg0 : BitVec 32 := BitVec.ofNat 32 (i 0).val
  let c10_i32_1201 : BitVec 32 := 10#32
  let v2291 : BitVec 32 := Scalar.muli arg0 c10_i32_1201
  let v2292 : BitVec 32 := Scalar.addi v2291 c0_i32_1202
  let v2293 : Index := Scalar.indexCast v2292
  ![25, v2293.toNat]
def k0_off27 (i : grid0.Coords) (c0_i32_1250 : BitVec 32) : Fin 2 → Nat :=
  let c26 : Index := 26#32
  let arg0 : BitVec 32 := BitVec.ofNat 32 (i 0).val
  let c10_i32_1249 : BitVec 32 := 10#32
  let v2382 : BitVec 32 := Scalar.muli arg0 c10_i32_1249
  let v2383 : BitVec 32 := Scalar.addi v2382 c0_i32_1250
  let v2384 : Index := Scalar.indexCast v2383
  ![26, v2384.toNat]
def k0_off28 (i : grid0.Coords) (c0_i32_1298 : BitVec 32) : Fin 2 → Nat :=
  let c27 : Index := 27#32
  let arg0 : BitVec 32 := BitVec.ofNat 32 (i 0).val
  let c10_i32_1297 : BitVec 32 := 10#32
  let v2473 : BitVec 32 := Scalar.muli arg0 c10_i32_1297
  let v2474 : BitVec 32 := Scalar.addi v2473 c0_i32_1298
  let v2475 : Index := Scalar.indexCast v2474
  ![27, v2475.toNat]
def k0_off29 (i : grid0.Coords) (c0_i32_1346 : BitVec 32) : Fin 2 → Nat :=
  let c28 : Index := 28#32
  let arg0 : BitVec 32 := BitVec.ofNat 32 (i 0).val
  let c10_i32_1345 : BitVec 32 := 10#32
  let v2564 : BitVec 32 := Scalar.muli arg0 c10_i32_1345
  let v2565 : BitVec 32 := Scalar.addi v2564 c0_i32_1346
  let v2566 : Index := Scalar.indexCast v2565
  ![28, v2566.toNat]
def k0_off30 (i : grid0.Coords) (c0_i32_1394 : BitVec 32) : Fin 2 → Nat :=
  let c29 : Index := 29#32
  let arg0 : BitVec 32 := BitVec.ofNat 32 (i 0).val
  let c10_i32_1393 : BitVec 32 := 10#32
  let v2655 : BitVec 32 := Scalar.muli arg0 c10_i32_1393
  let v2656 : BitVec 32 := Scalar.addi v2655 c0_i32_1394
  let v2657 : Index := Scalar.indexCast v2656
  ![29, v2657.toNat]
def k0_off31 (i : grid0.Coords) (c0_i32_1442 : BitVec 32) : Fin 2 → Nat :=
  let c30 : Index := 30#32
  let arg0 : BitVec 32 := BitVec.ofNat 32 (i 0).val
  let c10_i32_1441 : BitVec 32 := 10#32
  let v2746 : BitVec 32 := Scalar.muli arg0 c10_i32_1441
  let v2747 : BitVec 32 := Scalar.addi v2746 c0_i32_1442
  let v2748 : Index := Scalar.indexCast v2747
  ![30, v2748.toNat]
def k0_off32 (i : grid0.Coords) (c0_i32_1490 : BitVec 32) : Fin 2 → Nat :=
  let c31 : Index := 31#32
  let arg0 : BitVec 32 := BitVec.ofNat 32 (i 0).val
  let c10_i32_1489 : BitVec 32 := 10#32
  let v2837 : BitVec 32 := Scalar.muli arg0 c10_i32_1489
  let v2838 : BitVec 32 := Scalar.addi v2837 c0_i32_1490
  let v2839 : Index := Scalar.indexCast v2838
  ![31, v2839.toNat]
def k0_off33 (i : grid0.Coords) (c0_i32_1541 : BitVec 32) : Fin 2 → Nat :=
  let c32 : Index := 32#32
  let arg0 : BitVec 32 := BitVec.ofNat 32 (i 0).val
  let c10_i32_1540 : BitVec 32 := 10#32
  let v2932 : BitVec 32 := Scalar.muli arg0 c10_i32_1540
  let v2933 : BitVec 32 := Scalar.addi v2932 c0_i32_1541
  let v2934 : Index := Scalar.indexCast v2933
  ![32, v2934.toNat]
def k0_off34 (i : grid0.Coords) (c0_i32_1589 : BitVec 32) : Fin 2 → Nat :=
  let c33 : Index := 33#32
  let arg0 : BitVec 32 := BitVec.ofNat 32 (i 0).val
  let c10_i32_1588 : BitVec 32 := 10#32
  let v3023 : BitVec 32 := Scalar.muli arg0 c10_i32_1588
  let v3024 : BitVec 32 := Scalar.addi v3023 c0_i32_1589
  let v3025 : Index := Scalar.indexCast v3024
  ![33, v3025.toNat]
def k0_off35 (i : grid0.Coords) (c0_i32_1637 : BitVec 32) : Fin 2 → Nat :=
  let c34 : Index := 34#32
  let arg0 : BitVec 32 := BitVec.ofNat 32 (i 0).val
  let c10_i32_1636 : BitVec 32 := 10#32
  let v3114 : BitVec 32 := Scalar.muli arg0 c10_i32_1636
  let v3115 : BitVec 32 := Scalar.addi v3114 c0_i32_1637
  let v3116 : Index := Scalar.indexCast v3115
  ![34, v3116.toNat]
def k0_off36 (i : grid0.Coords) (c0_i32_1685 : BitVec 32) : Fin 2 → Nat :=
  let c35 : Index := 35#32
  let arg0 : BitVec 32 := BitVec.ofNat 32 (i 0).val
  let c10_i32_1684 : BitVec 32 := 10#32
  let v3205 : BitVec 32 := Scalar.muli arg0 c10_i32_1684
  let v3206 : BitVec 32 := Scalar.addi v3205 c0_i32_1685
  let v3207 : Index := Scalar.indexCast v3206
  ![35, v3207.toNat]
def k0_off37 (i : grid0.Coords) (c0_i32_1733 : BitVec 32) : Fin 2 → Nat :=
  let c36 : Index := 36#32
  let arg0 : BitVec 32 := BitVec.ofNat 32 (i 0).val
  let c10_i32_1732 : BitVec 32 := 10#32
  let v3296 : BitVec 32 := Scalar.muli arg0 c10_i32_1732
  let v3297 : BitVec 32 := Scalar.addi v3296 c0_i32_1733
  let v3298 : Index := Scalar.indexCast v3297
  ![36, v3298.toNat]
def k0_off38 (i : grid0.Coords) (c0_i32_1781 : BitVec 32) : Fin 2 → Nat :=
  let c37 : Index := 37#32
  let arg0 : BitVec 32 := BitVec.ofNat 32 (i 0).val
  let c10_i32_1780 : BitVec 32 := 10#32
  let v3387 : BitVec 32 := Scalar.muli arg0 c10_i32_1780
  let v3388 : BitVec 32 := Scalar.addi v3387 c0_i32_1781
  let v3389 : Index := Scalar.indexCast v3388
  ![37, v3389.toNat]
def k0_off39 (i : grid0.Coords) (c0_i32_1829 : BitVec 32) : Fin 2 → Nat :=
  let c38 : Index := 38#32
  let arg0 : BitVec 32 := BitVec.ofNat 32 (i 0).val
  let c10_i32_1828 : BitVec 32 := 10#32
  let v3478 : BitVec 32 := Scalar.muli arg0 c10_i32_1828
  let v3479 : BitVec 32 := Scalar.addi v3478 c0_i32_1829
  let v3480 : Index := Scalar.indexCast v3479
  ![38, v3480.toNat]
def k0_off40 (i : grid0.Coords) (c0_i32_1877 : BitVec 32) : Fin 2 → Nat :=
  let c39 : Index := 39#32
  let arg0 : BitVec 32 := BitVec.ofNat 32 (i 0).val
  let c10_i32_1876 : BitVec 32 := 10#32
  let v3569 : BitVec 32 := Scalar.muli arg0 c10_i32_1876
  let v3570 : BitVec 32 := Scalar.addi v3569 c0_i32_1877
  let v3571 : Index := Scalar.indexCast v3570
  ![39, v3571.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c4_i32_1927 : BitVec 32 := 4#32
  let v3665 : BitVec 1 := Scalar.cmpi .slt arg0 c4_i32_1927
  let v3666 : BitVec 32 := Scalar.extui v3665
  let c0_i32_1928 : BitVec 32 := 0#32
  let v3667 : BitVec 1 := Scalar.cmpi .ne v3666 c0_i32_1928
  v3667

def k0_cond3 (i : grid0.Coords) : BitVec 1 :=
  let arg0 : BitVec 32 := BitVec.ofNat 32 (i 0).val
  let c4_i32_1929 : BitVec 32 := 4#32
  let v3668 : BitVec 1 := Scalar.cmpi .eq arg0 c4_i32_1929
  let v3669 : BitVec 32 := Scalar.extui v3668
  let c0_i32_1930 : BitVec 32 := 0#32
  let v3670 : BitVec 1 := Scalar.cmpi .ne v3669 c0_i32_1930
  v3670

def k0_cond4 (i : grid0.Coords) : BitVec 1 :=
  let arg0 : BitVec 32 := BitVec.ofNat 32 (i 0).val
  let c5_i32_1931 : BitVec 32 := 5#32
  let v3671 : BitVec 1 := Scalar.cmpi .eq arg0 c5_i32_1931
  let v3672 : BitVec 32 := Scalar.extui v3671
  let c0_i32_1932 : BitVec 32 := 0#32
  let v3673 : BitVec 1 := Scalar.cmpi .ne v3672 c0_i32_1932
  v3673

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 4 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S256x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S80x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5120x1280 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .smem S40x60 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x5120 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x40x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2x8x160x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2x8x160x128 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x8x160x128 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== NormIdeal.lean ====
abbrev S256x5120 : Shape := ⟨2, ![256, 5120]⟩
abbrev S5120 : Shape := ⟨1, ![5120]⟩
abbrev S5120x7680 : Shape := ⟨2, ![5120, 7680]⟩
abbrev S40x60 : Shape := ⟨2, ![40, 60]⟩
abbrev S2x128 : Shape := ⟨2, ![2, 128]⟩
abbrev S1x5120 : Shape := ⟨2, ![1, 5120]⟩
abbrev S2x40x128 : Shape := ⟨3, ![2, 40, 128]⟩
abbrev S256 : Shape := ⟨1, ![256]⟩
abbrev S256x1 : Shape := ⟨2, ![256, 1]⟩
abbrev S256x40x128 : Shape := ⟨3, ![256, 40, 128]⟩
abbrev S256x40 : Shape := ⟨2, ![256, 40]⟩
abbrev S1x1x247 : Shape := ⟨3, ![1, 1, 247]⟩
abbrev S256x40x1 : Shape := ⟨3, ![256, 40, 1]⟩
abbrev S256x40x247 : Shape := ⟨3, ![256, 40, 247]⟩
abbrev S128x40 : Shape := ⟨2, ![128, 40]⟩
abbrev S40x128 : Shape := ⟨2, ![40, 128]⟩
abbrev S1x40x128 : Shape := ⟨3, ![1, 40, 128]⟩

abbrev nBuf : Space → Nat
  | .hbm => 8
  | .vmem => 4
  | .smem => 0
  | _ => 0

abbrev bufTy : (tb : Table) → Fin (tcTables nBuf tb) → BufTy
  | .hbm, ⟨0, _⟩ => ⟨S256x5120, .bf16⟩
  | .hbm, ⟨1, _⟩ => ⟨S5120, .f32⟩
  | .hbm, ⟨2, _⟩ => ⟨S5120x7680, .fp8e4m3⟩
  | .hbm, ⟨3, _⟩ => ⟨S40x60, .f32⟩
  | .hbm, ⟨4, _⟩ => ⟨S2x128, .i32⟩
  | .hbm, ⟨5, _⟩ => ⟨S1x5120, .f32⟩
  | .hbm, ⟨6, _⟩ => ⟨S256x5120, .fp8e4m3⟩
  | .hbm, ⟨7, _⟩ => ⟨S2x40x128, .f32⟩
  | .local _ .vmem, ⟨0, _⟩ => ⟨S256x5120, .bf16⟩
  | .local _ .vmem, ⟨1, _⟩ => ⟨S1x5120, .f32⟩
  | .local _ .vmem, ⟨2, _⟩ => ⟨S256x5120, .fp8e4m3⟩
  | .local _ .vmem, ⟨3, _⟩ => ⟨S2x40x128, .f32⟩
  | _, _ => ⟨S256x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S256x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x40x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Tiles.lean ====
module
public import proofs.«01_k».proof.Proof.Gen.KernelIdeal.Value
public import Idealize.ShloMosaic.Lib.Pointwise
public import Idealize.ShloMosaic.Lib.Pipeline.ValueKit
public import Idealize.ShloMosaic.Lib.Pipeline.ReadBack
@[expose] public section
noncomputable section
namespace Cert.KernelIdeal.Down
open Cert.KernelIdeal Cert.KernelIdeal.Gen Idealize.ShloMosaic Idealize.ShloMosaic.TcCoe Idealize.SL.Sem
open Idealize.ShloMosaic.Tactic

/-- Four tiles side by side, as the kernel writes a row of tiles. -/
def cat4 {α : Type} (a b c d : S128x128.Idx → α) : S128x512.Idx → α :=
  concatenate S128x512 1 [⟨S128x128, a⟩, ⟨S128x128, b⟩, ⟨S128x128, c⟩, ⟨S128x128, d⟩] concatenates_S128x128_S128x128_S128x128_S128x128_S128x512_d1

/-- The kernel's row of four tiles is `cat4` of them. -/
theorem cat4_fold {α : Type} (a b c d : S128x128.Idx → α) (hc) :
    concatenate S128x512 1 [⟨S128x128, a⟩, ⟨S128x128, b⟩, ⟨S128x128, c⟩, ⟨S128x128, d⟩] hc = cat4 a b c d := rfl

/-- Eight rows of tiles, one under the other, as the kernel writes a chunk of the weight. -/
def cat8 {α : Type} (a b c d e f g k : S128x512.Idx → α) : S1024x512.Idx → α :=
  concatenate S1024x512 0 [⟨S128x512, a⟩, ⟨S128x512, b⟩, ⟨S128x512, c⟩, ⟨S128x512, d⟩, ⟨S128x512, e⟩, ⟨S128x512, f⟩, ⟨S128x512, g⟩, ⟨S128x512, k⟩] concatenates_S128x512_S128x512_S128x512_S128x512_S128x512_S128x512_S128x512_S128x512_S1024x512_d0

/-- The kernel's stack of eight rows is `cat8` of them. -/
theorem cat8_fold {α : Type} (a b c d e f g k : S128x512.Idx → α) (hc) :
    concatenate S1024x512 0 [⟨S128x512, a⟩, ⟨S128x512, b⟩, ⟨S128x512, c⟩, ⟨S128x512, d⟩, ⟨S128x512, e⟩, ⟨S128x512, f⟩, ⟨S128x512, g⟩, ⟨S128x512, k⟩] hc
      = cat8 a b c d e f g k := rfl

/-- A full-width row of tiles fits where its first tile fits. -/
theorem slices4 {r : ℕ} (h0 : S17408x512.Slices ![r, 0] S128x128) : S17408x512.Slices ![r, 0] S128x512 :=
  have hr : r + 128 ≤ 17408 := h0.2 0
  ⟨rfl, fun a => by fin_cases a <;> simp [S128x512, S17408x512] <;> omega⟩

/-- A chunk of eight rows fits where its last row fits. -/
theorem slices8 {r r7 : ℕ} (h7 : S17408x512.Slices ![r7, 0] S128x512) (e7 : r7 = r + 896) : S17408x512.Slices ![r, 0] S1024x512 :=
  have hr : r7 + 128 ≤ 17408 := h7.2 0
  ⟨rfl, fun a => by fin_cases a <;> simp [S1024x512, S17408x512] <;> omega⟩

/-- Four neighbouring tiles of one array, side by side, are a slice of that array. -/
theorem concat4 {α : Type} (X : S17408x512.Idx → α) (r : ℕ)
    (h0 : S17408x512.Slices ![r, 0] S128x128) (h1 : S17408x512.Slices ![r, 128] S128x128)
    (h2 : S17408x512.Slices ![r, 256] S128x128) (h3 : S17408x512.Slices ![r, 384] S128x128) :
    cat4 (extractStridedSlice S128x128 ![r, 0] X h0) (extractStridedSlice S128x128 ![r, 128] X h1) (extractStridedSlice S128x128 ![r, 256] X h2) (extractStridedSlice S128x128 ![r, 384] X h3)
      = extractStridedSlice S128x512 ![r, 0] X (slices4 h0) := by
  funext j
  unfold cat4
  have hj : (j 1).val < 512 := (j 1).isLt
  pointwise
  split_ifs <;> congr 2 <;> (try apply Fin.ext) <;> (try dsimp only) <;> omega

/-- Eight neighbouring row slices of one array, stacked, are a slice of that array. -/
theorem concat8 {α : Type} (X : S17408x512.Idx → α) (r r1 r2 r3 r4 r5 r6 r7 : ℕ)
    (h0 : S17408x512.Slices ![r, 0] S128x512) (h1 : S17408x512.Slices ![r1, 0] S128x512)
    (h2 : S17408x512.Slices ![r2, 0] S128x512) (h3 : S17408x512.Slices ![r3, 0] S128x512)
    (h4 : S17408x512.Slices ![r4, 0] S128x512) (h5 : S17408x512.Slices ![r5, 0] S128x512)
    (h6 : S17408x512.Slices ![r6, 0] S128x512) (h7 : S17408x512.Slices ![r7, 0] S128x512)
    (e1 : r1 = r + 128) (e2 : r2 = r + 256) (e3 : r3 = r + 384) (e4 : r4 = r + 512) (e5 : r5 = r + 640) (e6 : r6 = r + 768) (e7 : r7 = r + 896) :
    cat8 (extractStridedSlice S128x512 ![r, 0] X h0) (extractStridedSlice S128x512 ![r1, 0] X h1) (extractStridedSlice S128x512 ![r2, 0] X h2) (extractStridedSlice S128x512 ![r3, 0] X h3) (extractStridedSlice S128x512 ![r4, 0] X h4) (extractStridedSlice S128x512 ![r5, 0] X h5) (extractStridedSlice S128x512 ![r6, 0] X h6) (extractStridedSlice S128x512 ![r7, 0] X h7)
      = extractStridedSlice S1024x512 ![r, 0] X (slices8 h7 e7) := by
  subst e1 e2 e3 e4 e5 e6 e7
  funext j
  unfold cat8
  have hj : (j 0).val < 1024 := (j 0).isLt
  pointwise
  split_ifs <;> congr 2 <;> (try apply Fin.ext) <;> (try dsimp only) <;> omega

/-- The zero offset, as a constant function. -/
theorem hz : (![0, 0] : Fin 2 → Nat) = fun _ => 0 := funext fun a => by fin_cases a <;> rfl

variable {F : FTy → Type} [FloatOps F]

/-- The weight scale of each element of column block `n`: one per 128 by 128 tile, read from the transposed table. -/
def wts (n : ℕ) (x3 : Vec F S40x136 .f32) : FVec F S17408x512 .f32 := fun y =>
  if h : 4 * n + (y 1).val / 128 < 40 then x3 (ix2 ⟨4 * n + (y 1).val / 128, h⟩ ⟨(y 0).val / 128, by have : (y 0).val < 17408 := (y 0).isLt; omega⟩)
  else x3 (ix2 0 0)

/-- The dequantised weight of column block `n`: the codes times their tiles' scales. -/
def wblk (n : ℕ) (x2 : Vec F S17408x512 .fp8e4m3) (x3 : Vec F S40x136 .f32) : FVec F S17408x512 .bf16 :=
  mulf (extf .bf16 x2 bitsLt_fp8e4m3_bf16) (truncf .bf16 (wts n x3) bitsLt_bf16_f32)

/-- A tile whose bounds hold is a slice of the weight block. -/
theorem slicesT {r c : ℕ} (hin : ∀ a, ![r, c] a + S128x128.size a ≤ S17408x512.size a) : S17408x512.Slices ![r, c] S128x128 := ⟨rfl, hin⟩

/-- A chunk of columns whose bounds hold is a slice of the activations. -/
theorem slicesH {c : ℕ} (hin : ∀ a, ![0, c] a + S256x1024.size a ≤ S256x17408.size a) : S256x17408.Slices ![0, c] S256x1024 := ⟨rfl, hin⟩

/-- One dequantised tile of the kernel is a slice of `wblk`. -/
theorem tile_eq (n : ℕ) (hn : n < 10) (r c : ℕ) (x2 : Vec F S17408x512 .fp8e4m3) (x3 : Vec F S40x136 .f32)
    (hin : ∀ a, ![r, c] a + S128x128.size a ≤ S17408x512.size a) (off : Fin 2 → ℕ) (hin4 : ∀ a, off a + S1x1.size a ≤ S40x136.size a)
    (hoff : off = ![BitVec.toNat (Scalar.indexCast (Scalar.addi (Scalar.muli (BitVec.ofNat 32 n) 4#32) (BitVec.ofNat 32 (c / 128)))), r / 128])
    (hr : r % 128 = 0) (hc : c % 128 = 0) (z : (⟨2, ![1, 1]⟩ : Shape).Idx) (p1 p2) :
    mulf (s := S128x128) (extf (s := S128x128) .bf16 (View.ld x2 (Rect.unit (s := S17408x512) ![r, c] ![128, 128] hin)) p1)
      (truncf (s := S128x128) .bf16 (broadcast S128x128 (View.ld x3 (Rect.unit (s := S40x136) off ![1, 1] hin4) z)) p2)
    = extractStridedSlice S128x128 ![r, c] (wblk n x2 x3) (slicesT hin) := by
  have hr' : r + 128 ≤ 17408 := hin 0
  have hc' : c + 128 ≤ 512 := hin 1
  have ho : BitVec.toNat (Scalar.indexCast (Scalar.addi (Scalar.muli (BitVec.ofNat 32 n) 4#32) (BitVec.ofNat 32 (c / 128)))) = 4 * n + c / 128 := by
    show (BitVec.ofNat 32 n * 4#32 + BitVec.ofNat 32 (c / 128)).toNat = _
    rw [BitVec.toNat_add, BitVec.toNat_mul, BitVec.toNat_ofNat]
    simp only [BitVec.toNat_ofNat]
    omega
  rw [ho] at hoff
  subst hoff
  funext y
  unfold wblk wts
  have hy0 : (y 0).val < 128 := (y 0).isLt
  have hy1 : (y 1).val < 128 := (y 1).isLt
  have hz0 : (z 0).val < 1 := (z 0).isLt
  have hz1 : (z 1).val < 1 := (z 1).isLt
  pointwise
  rw [dif_pos (by omega)]
  congr 4 <;> apply Fin.ext <;> dsimp only <;> omega

/-- A read of a chunk of the scratch is a slice of its contents. -/
theorem scr_eq (c : ℕ) (xs0 : Vec F S256x17408 .bf16) (hin : ∀ a, ![0, c] a + S256x1024.size a ≤ S256x17408.size a) :
    View.ld xs0 (Rect.unit (s := S256x17408) ![0, c] ![256, 1024] hin) = extractStridedSlice S256x1024 ![0, c] xs0 (slicesH hin) :=
  View.ld_unit xs0 _ _ hin

/-- The product of one chunk of 1024 features. -/
def chunkDot (H : FVec F S256x17408 .bf16) (W : FVec F S17408x512 .bf16) (c : ℕ) : FVec F S256x512 .f32 :=
  if h : c < 17 then
    matmul dot_S256x1024_S1024x512_S256x512_1_0_0_1_n_n none
      (extractStridedSlice S256x1024 ![0, 1024 * c] H ⟨rfl, fun a => by fin_cases a <;> simp [S256x1024, S256x17408] <;> omega⟩)
      (extractStridedSlice S1024x512 ![1024 * c, 0] W ⟨rfl, fun a => by fin_cases a <;> simp [S1024x512, S17408x512] <;> omega⟩)
      (constant S256x512 .f32 0x00000000#32)
  else constant S256x512 .f32 0x00000000#32

/-- The kernel's product of a chunk of activations and a chunk of weights is `chunkDot`. -/
theorem chunk_eq (H : FVec F S256x17408 .bf16) (W : FVec F S17408x512 .bf16) (r : ℕ) (hc : r / 1024 < 17) (hr : r % 1024 = 0) (h1 h2) :
    matmul dot_S256x1024_S1024x512_S256x512_1_0_0_1_n_n none
      (extractStridedSlice S256x1024 ![0, r] H h1) (extractStridedSlice S1024x512 ![r, 0] W h2)
      (constant S256x512 .f32 0x00000000#32) = chunkDot H W (r / 1024) := by
  have hr' : 1024 * (r / 1024) = r := by omega
  obtain ⟨c, rfl⟩ : ∃ c, r = 1024 * c := ⟨_, hr'.symm⟩
  have e : 1024 * c / 1024 = c := by omega
  rw [e] at hc ⊢
  rw [chunkDot, dif_pos hc]

/-- The accumulator after a number of chunks. -/
def accum (H : FVec F S256x17408 .bf16) (W : FVec F S17408x512 .bf16) : ℕ → FVec F S256x512 .f32
  | 0 => constant S256x512 .f32 0x00000000#32
  | n + 1 => addf (accum H W n) (chunkDot H W n)

/-- A block's output: the residual plus the accumulator after all seventeen chunks, rounded to bf16. -/
def outv (H : FVec F S256x17408 .bf16) (W : FVec F S17408x512 .bf16) (x4 : Vec F S256x512 .bf16) : FVec F S256x512 .bf16 :=
  truncf .bf16 (addf (extf .f32 x4 bitsLt_bf16_f32) (accum H W 17)) bitsLt_bf16_f32

end Cert.KernelIdeal.Down
end
-- ==== Proof.Fill.lean ====
module
public import proofs.«01_k».proof.Proof.Tiles
@[expose] public section
noncomputable section
namespace Cert.KernelIdeal.Down
open Cert.KernelIdeal Cert.KernelIdeal.Gen Idealize.ShloMosaic Idealize.ShloMosaic.TcCoe Idealize.SL.Sem
open Idealize.ShloMosaic.Tactic
variable {F : FTy → Type} [FloatOps F]

/-- The activation scales as the scratch fill reads them: both batches transposed, one under the other. -/
def hsf (x1 : Vec F S2x136x128 .f32) : FVec F S256x136 .f32 :=
  k0_pay2 (View.ld x1 (Rect.unit (s := S2x136x128) ![0, 0, 0] ![1, 136, 128] inb_S2x136x128_S1x136x128_0_0_0))
    (View.ld x1 (Rect.unit (s := S2x136x128) ![1, 0, 0] ![1, 136, 128] inb_S2x136x128_S1x136x128_1_0_0))

/-- The dequantised activations from the codes and an array of scales, one scale for each 128 columns. -/
def hfill (x0 : Vec F S256x17408 .fp8e4m3) (hs : FVec F S256x136 .f32) : Vec F S256x17408 .bf16 :=
  mulf (s := S256x17408) (extf (s := S256x17408) .bf16 x0 bitsLt_fp8e4m3_bf16)
    (truncf (s := S256x17408) .bf16 (fun y : S256x17408.Idx => hs (ix2 (y 0) ⟨(y 1).val / 128, by have : (y 1).val < 17408 := (y 1).isLt; omega⟩)) bitsLt_bf16_f32)

/-- The dequantised activations from the codes and the scales. -/
def hblk (x0 : Vec F S256x17408 .fp8e4m3) (x1 : Vec F S2x136x128 .f32) : Vec F S256x17408 .bf16 := hfill x0 (hsf x1)

/-- One of the 136 column groups that the fill writes is a slice of `hfill`. -/
theorem piece_eq (x0 : Vec F S256x17408 .fp8e4m3) (hs : FVec F S256x136 .f32) (c k : ℕ) (hin : ∀ a, ![0, c] a + S256x128.size a ≤ S256x17408.size a)
    (hsl : S256x136.Slices ![0, k] S256x1) (hb) (p1 p2) (hk : k * 128 = c) :
    mulf (s := S256x128) (extf (s := S256x128) .bf16 (View.ld x0 (Rect.unit (s := S256x17408) ![0, c] ![256, 128] hin)) p1)
      (truncf (s := S256x128) .bf16 (broadcastTo S256x128 (extractStridedSlice S256x1 ![0, k] hs hsl) hb) p2)
    = View.ld (hfill x0 hs) (Rect.unit (s := S256x17408) ![0, c] ![256, 128] hin) := by
  subst hk
  have hc' : k * 128 + 128 ≤ 17408 := hin 1
  funext y
  have hy0 : (y 0).val < 256 := (y 0).isLt
  have hy1 : (y 1).val < 128 := (y 1).isLt
  unfold hfill
  pointwise
  congr 4 <;> apply Fin.ext <;> dsimp only <;> omega

/-- The fill's scale array is `hsf`. -/
theorem hsf_fold (x1 : Vec F S2x136x128 .f32) :
  k0_pay2 (View.ld x1 (Rect.unit (s := S2x136x128) ![0, 0, 0] ![1, 136, 128] inb_S2x136x128_S1x136x128_0_0_0))
    (View.ld x1 (Rect.unit (s := S2x136x128) ![1, 0, 0] ![1, 136, 128] inb_S2x136x128_S1x136x128_1_0_0)) = hsf x1 := rfl

set_option maxHeartbeats 4000000 in
/-- Each of the 136 writes of the fill writes a slice of `hfill`. -/
theorem pieces_A (c : Dev nD) (i : grid0.Coords) (arg1 : Memref sig .tc .vmem S256x17408 .fp8e4m3) (harg1 : arg1.IsWhole) (arg2 : Memref sig .tc .vmem S2x136x128 .f32) (harg2 : arg2.IsWhole) (arg3 : Memref sig .tc .vmem S17408x512 .fp8e4m3) (harg3 : arg3.IsWhole) (arg4 : Memref sig .tc .smem S40x136 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x17408 .bf16) (harg7 : arg7.IsWhole) (hc0 : cond0_0 i)
    (x0 : Vec F S256x17408 .fp8e4m3) (x1 : Vec F S2x136x128 .f32) (x2 : Vec F S17408x512 .fp8e4m3) (x3 : Vec F S40x136 .f32) (x4 : Vec F S256x512 .bf16) :
    View.PiecesOf (hblk x0 x1) (kernelRun0_A c i arg1 harg1 arg2 harg2 arg3 harg3 arg4 harg4 arg5 harg5 arg6 harg6 arg7 harg7 hc0 x0 x1 x2 x3 x4).2.1 := by
  frame_open
  simp only [View.readAt_eq_ld, Memref.IsWhole.read_unread]
  simp only [hsf_fold]
  simp only [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166]
  simp only [hsf_fold]
  simp (disch := first | with_unfolding_all exact id rfl | decide) only [shapeCast_self, piece_eq]
  repeat (refine ⟨fun _ => rfl, ?_⟩)
  trivial

/-- The 136 writes together leave `hblk`. -/
theorem canon_A (c : Dev nD) (i : grid0.Coords) (arg1 : Memref sig .tc .vmem S256x17408 .fp8e4m3) (harg1 : arg1.IsWhole) (arg2 : Memref sig .tc .vmem S2x136x128 .f32) (harg2 : arg2.IsWhole) (arg3 : Memref sig .tc .vmem S17408x512 .fp8e4m3) (harg3 : arg3.IsWhole) (arg4 : Memref sig .tc .smem S40x136 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x17408 .bf16) (harg7 : arg7.IsWhole) (hc0 : cond0_0 i)
    (x0 : Vec F S256x17408 .fp8e4m3) (x1 : Vec F S2x136x128 .f32) (x2 : Vec F S17408x512 .fp8e4m3) (x3 : Vec F S40x136 .f32) (x4 : Vec F S256x512 .bf16) :
    View.canon (kernelRun0_A c i arg1 harg1 arg2 harg2 arg3 harg3 arg4 harg4 arg5 harg5 arg6 harg6 arg7 harg7 hc0 x0 x1 x2 x3 x4).2.1 = hblk x0 x1 :=
  funext fun y => View.canon_apply_of_pieces _ _ (pieces_A c i arg1 harg1 arg2 harg2 arg3 harg3 arg4 harg4 arg5 harg5 arg6 harg6 arg7 harg7 hc0 x0 x1 x2 x3 x4).mem y (scover0_A_0 c i arg1 harg1 arg2 harg2 arg3 harg3 arg4 harg4 arg5 harg5 arg6 harg6 arg7 harg7 hc0 x0 x1 x2 x3 x4 y)

/-- The first grid point leaves the dequantised activations in the scratch. -/
theorem sout_A (c : Dev nD) (i : grid0.Coords) (arg1 : Memref sig .tc .vmem S256x17408 .fp8e4m3) (harg1 : arg1.IsWhole) (arg2 : Memref sig .tc .vmem S2x136x128 .f32) (harg2 : arg2.IsWhole) (arg3 : Memref sig .tc .vmem S17408x512 .fp8e4m3) (harg3 : arg3.IsWhole) (arg4 : Memref sig .tc .smem S40x136 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x17408 .bf16) (harg7 : arg7.IsWhole) (hc0 : cond0_0 i)
    (x0 : Vec F S256x17408 .fp8e4m3) (x1 : Vec F S2x136x128 .f32) (x2 : Vec F S17408x512 .fp8e4m3) (x3 : Vec F S40x136 .f32) (x4 : Vec F S256x512 .bf16) :
    sout0_A_0 c i arg1 harg1 arg2 harg2 arg3 harg3 arg4 harg4 arg5 harg5 arg6 harg6 arg7 harg7 hc0 x0 x1 x2 x3 x4 = hblk x0 x1 := by
  unfold sout0_A_0
  rw [View.read_writes_junk_eq_canon, canon_A]
end Cert.KernelIdeal.Down
end
-- ==== Proof.CaseA.lean ====
module
public import proofs.«01_k».proof.Proof.Fill
@[expose] public section
noncomputable section
namespace Cert.KernelIdeal.Down
open Cert.KernelIdeal Cert.KernelIdeal.Gen Idealize.ShloMosaic Idealize.ShloMosaic.TcCoe Idealize.SL.Sem
open Idealize.ShloMosaic.Tactic
variable {F : FTy → Type} [FloatOps F]
set_option maxHeartbeats 8000000 in
/-- At the first grid point, where the scratch has just been filled, the body stores `outv` of the filled scratch into its output block. -/
theorem out_A (c : Dev nD) (i : grid0.Coords) (arg1 : Memref sig .tc .vmem S256x17408 .fp8e4m3) (harg1 : arg1.IsWhole) (arg2 : Memref sig .tc .vmem S2x136x128 .f32) (harg2 : arg2.IsWhole) (arg3 : Memref sig .tc .vmem S17408x512 .fp8e4m3) (harg3 : arg3.IsWhole) (arg4 : Memref sig .tc .smem S40x136 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x17408 .bf16) (harg7 : arg7.IsWhole) (hc0 : cond0_0 i)
    (x0 : Vec F S256x17408 .fp8e4m3) (x1 : Vec F S2x136x128 .f32) (x2 : Vec F S17408x512 .fp8e4m3) (x3 : Vec F S40x136 .f32) (x4 : Vec F S256x512 .bf16) :
    out0_A_5 c i arg1 harg1 arg2 harg2 arg3 harg3 arg4 harg4 arg5 harg5 arg6 harg6 arg7 harg7 hc0 x0 x1 x2 x3 x4 = outv (hblk x0 x1) (wblk (i 0).val x2 x3) x4 := by
  have hn : (i 0).val < 10 := (i 0).isLt
  have key : ∀ B : Rect S256x17408, arg7.view.readCov (kernelRun0_A c i arg1 harg1 arg2 harg2 arg3 harg3 arg4 harg4 arg5 harg5 arg6 harg6 arg7 harg7 hc0 x0 x1 x2 x3 x4).2.1 B.toLoadRect = View.ld (hblk x0 x1) B := by
    intro B
    rw [View.readCov_eq_canon', canon_A]
  frame_open at key
  frame_open
  simp only [key]
  clear key
  simp only [View.read_writes_junk_eq_canon, View.canon_cons_unit_lit']
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay535, k0_pay536, k0_pay537, k0_pay538, k0_pay539, k0_pay540, k0_pay541, k0_pay542]
  simp only [cat4_fold, cat8_fold]
  simp only [View.readAt_eq_ld, Memref.IsWhole.read_unread]
  simp (disch := first | with_unfolding_all exact id rfl | decide) only [tile_eq _ hn, concat4, concat8, scr_eq, chunk_eq, shapeCast_self, View.ld_unit_lit', View.canon_unit_zero (S := S256x512) hz]
  rfl
end Cert.KernelIdeal.Down
end
-- ==== Proof.CaseB.lean ====
module
public import proofs.«01_k».proof.Proof.Tiles
@[expose] public section
noncomputable section
namespace Cert.KernelIdeal.Down
open Cert.KernelIdeal Cert.KernelIdeal.Gen Idealize.ShloMosaic Idealize.ShloMosaic.TcCoe Idealize.SL.Sem
open Idealize.ShloMosaic.Tactic
variable {F : FTy → Type} [FloatOps F]
set_option maxHeartbeats 8000000 in
/-- At a later grid point the body stores `outv` of the scratch it finds into its output block. -/
theorem out_B (c : Dev nD) (i : grid0.Coords) (arg1 : Memref sig .tc .vmem S256x17408 .fp8e4m3) (harg1 : arg1.IsWhole) (arg2 : Memref sig .tc .vmem S2x136x128 .f32) (harg2 : arg2.IsWhole) (arg3 : Memref sig .tc .vmem S17408x512 .fp8e4m3) (harg3 : arg3.IsWhole) (arg4 : Memref sig .tc .smem S40x136 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x17408 .bf16) (harg7 : arg7.IsWhole) (hc0 : ¬cond0_0 i)
    (x0 : Vec F S256x17408 .fp8e4m3) (x1 : Vec F S2x136x128 .f32) (x2 : Vec F S17408x512 .fp8e4m3) (x3 : Vec F S40x136 .f32) (x4 : Vec F S256x512 .bf16) (xs0 : Vec F S256x17408 .bf16) :
    out0_B_5 c i arg1 harg1 arg2 harg2 arg3 harg3 arg4 harg4 arg5 harg5 arg6 harg6 arg7 harg7 hc0 x0 x1 x2 x3 x4 xs0 = outv xs0 (wblk (i 0).val x2 x3) x4 := by
  have hn : (i 0).val < 10 := (i 0).isLt
  frame_open
  simp only [View.read_writes_junk_eq_canon, View.canon_cons_unit_lit']
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay535, k0_pay536, k0_pay537, k0_pay538, k0_pay539, k0_pay540, k0_pay541, k0_pay542]
  simp only [cat4_fold, cat8_fold]
  simp only [View.readAt_eq_ld, Memref.IsWhole.read_unread]
  simp (disch := first | with_unfolding_all exact id rfl | decide) only [tile_eq _ hn, concat4, concat8, scr_eq, chunk_eq, shapeCast_self, View.ld_unit_lit', View.canon_unit_zero (S := S256x512) hz]
  rfl
end Cert.KernelIdeal.Down
end
-- ==== Proof.Blocks.lean ====
module
public import proofs.«01_k».proof.Proof.CaseA
public import proofs.«01_k».proof.Proof.CaseB
public import Idealize.ShloMosaic.Lib.Claim
@[expose] public section
noncomputable section
namespace Cert.KernelIdeal.Down
open Cert.KernelIdeal Cert.KernelIdeal.Gen Cert.KernelIdeal.Value Idealize.ShloMosaic Idealize.ShloMosaic.TcCoe Idealize.SL.Sem
open Idealize.ShloMosaic.Tactic
variable {F : FTy → Type} [FloatOps F]
variable (m : (ℓ : Loc nD τ sig) → Buf (Elt F) ℓ)

/-- There are ten grid points. -/
theorem lt10 (t : Fin cfg0.N) : t.val < 10 := lt_of_lt_of_eq t.isLt (show cfg0.N = 10 from N_0)

/-- The grid has one axis: a point's coordinate is its number. -/
theorem coord (t : Fin cfg0.N) : ((grid0.coords t) 0).val = t.val :=
  (by decide +kernel : ∀ t : Fin grid0.N, ((grid0.coords t) 0).val = t.val) t

/-- The codes' window is at the origin at every point. -/
theorem idx0 (t : Fin cfg0.N) : win0_0.index t = ![0, 0] := (by decide +kernel : ∀ t : Fin grid0.N, win0_0.index t = ![0, 0]) t
/-- The activation scales' window is at the origin at every point. -/
theorem idx1 (t : Fin cfg0.N) : win0_1.index t = ![0, 0, 0] := (by decide +kernel : ∀ t : Fin grid0.N, win0_1.index t = ![0, 0, 0]) t
/-- The weight's window is column block `t`. -/
theorem idx2 (t : Fin cfg0.N) : win0_2.index t = ![0, t.val] := (by decide +kernel : ∀ t : Fin grid0.N, win0_2.index t = ![0, t.val]) t
/-- The residual's window is column block `t`. -/
theorem idx4 (t : Fin cfg0.N) : win0_4.index t = ![0, t.val] := (by decide +kernel : ∀ t : Fin grid0.N, win0_4.index t = ![0, t.val]) t

/-- The weight scales' window is at the origin at every point. -/
theorem idx3 (t : Fin cfg0.N) : win0_3.index t = ![0, 0] := (by decide +kernel : ∀ t : Fin grid0.N, win0_3.index t = ![0, 0]) t

/-- The codes' block, as the argument gives it: batch and row make one axis. -/
theorem blk0 (c : Dev nD) (t : Fin cfg0.N) (a : Fin 256) (k : Fin 17408) :
    iblk m c 0 t (ix2 a k) = m ((c : Thread nD τ).loc main_arg0) (ix3 ⟨a.val / 128, by omega⟩ ⟨a.val % 128, by omega⟩ k) := by
  have e : ((View.whole main_v2).slice (win0_0.rect t)).emb (ix2 a k) = ix2 a k := by blk_ext [idx0]
  show V m c main_v2 _ = _
  rw [e]
  entry_read
  pointwise
/-- The activation scales' block is the argument with its last two axes exchanged. -/
theorem blk1 (c : Dev nD) (t : Fin cfg0.N) (b : Fin 2) (g : Fin 136) (s : Fin 128) :
    iblk m c 1 t (ix3 b g s) = m ((c : Thread nD τ).loc main_arg1) (ix3 b s g) := by
  have e : ((View.whole main_v0).slice (win0_1.rect t)).emb (ix3 b g s) = ix3 b g s := by blk_ext [idx1]
  show V m c main_v0 _ = _
  rw [e]
  entry_read
  pointwise
/-- The weight's block is columns `512 t` to `512 t + 511` of the argument. -/
theorem blk2 (c : Dev nD) (t : Fin cfg0.N) (k : Fin 17408) (j : Fin 512) :
    iblk m c 2 t (ix2 k j) = m ((c : Thread nD τ).loc main_arg2) (ix2 k ⟨512 * t.val + j.val, by have := lt10 t; omega⟩) := by
  have e : ((View.whole main_arg2).slice (win0_2.rect t)).emb (ix2 k j) = ix2 k ⟨512 * t.val + j.val, by have := lt10 t; omega⟩ := by blk_ext [idx2]
  show V m c main_arg2 _ = _
  rw [e]
  entry_read
  pointwise
/-- The weight scales' block is the transposed argument. -/
theorem blk3 (c : Dev nD) (t : Fin cfg0.N) (n : Fin 40) (g : Fin 136) :
    iblk m c 3 t (ix2 n g) = m ((c : Thread nD τ).loc main_arg3) (ix2 g n) := by
  have e : ((View.whole main_v1).slice (win0_3.rect t)).emb (ix2 n g) = ix2 n g := by blk_ext [idx3]
  show V m c main_v1 _ = _
  rw [e]
  entry_read
  pointwise
/-- The residual's block is columns `512 t` to `512 t + 511` of the argument, batch and row as one axis. -/
theorem blk4 (c : Dev nD) (t : Fin cfg0.N) (a : Fin 256) (j : Fin 512) :
    iblk m c 4 t (ix2 a j) = m ((c : Thread nD τ).loc main_arg4) (ix3 ⟨a.val / 128, by omega⟩ ⟨a.val % 128, by omega⟩ ⟨512 * t.val + j.val, by have := lt10 t; omega⟩) := by
  have e : ((View.whole main_v3).slice (win0_4.rect t)).emb (ix2 a j) = ix2 a ⟨512 * t.val + j.val, by have := lt10 t; omega⟩ := by blk_ext [idx4]
  show V m c main_v3 _ = _
  rw [e]
  entry_read
  pointwise

/-- A later grid point leaves the scratch as it finds it. -/
theorem sout_B (c : Dev nD) (i : grid0.Coords) (arg1 : Memref sig .tc .vmem S256x17408 .fp8e4m3) (harg1 : arg1.IsWhole) (arg2 : Memref sig .tc .vmem S2x136x128 .f32) (harg2 : arg2.IsWhole) (arg3 : Memref sig .tc .vmem S17408x512 .fp8e4m3) (harg3 : arg3.IsWhole) (arg4 : Memref sig .tc .smem S40x136 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x17408 .bf16) (harg7 : arg7.IsWhole) (hc0 : ¬cond0_0 i)
    (x0 : Vec F S256x17408 .fp8e4m3) (x1 : Vec F S2x136x128 .f32) (x2 : Vec F S17408x512 .fp8e4m3) (x3 : Vec F S40x136 .f32) (x4 : Vec F S256x512 .bf16) (xs0 : Vec F S256x17408 .bf16) :
    sout0_B_0 c i arg1 harg1 arg2 harg2 arg3 harg3 arg4 harg4 arg5 harg5 arg6 harg6 arg7 harg7 hc0 x0 x1 x2 x3 x4 xs0 = xs0 := rfl

/-- The grid is not empty. -/
theorem N_pos : 0 < cfg0.N := lt_of_lt_of_eq (by decide) (show cfg0.N = 10 from N_0).symm

/-- The dequantised activations, as the launch's arguments give them. -/
def H (c : Dev nD) : Vec F S256x17408 .bf16 := hblk (iblk m c 0 ⟨0, N_pos⟩) (iblk m c 1 ⟨0, N_pos⟩)

/-- After every grid point the scratch holds the dequantised activations. -/
theorem scratch (c : Dev nD) : ∀ (n : ℕ) (hn : n < cfg0.N), (outsAt0 m c n hn).2 = H m c
  | 0, hn => by
    rw [outsAt0_A m c ⟨0, hn⟩ (Nat.zero_mod _)]
    dsimp only
    rw [sout_A]
    rfl
  | n + 1, hn => by
    have h10 := lt10 ⟨n + 1, hn⟩
    rw [outsAt0_B m c ⟨n + 1, hn⟩ (by show ¬(n + 1) % 10 = 0; have : n + 1 < 10 := h10; omega)]
    dsimp only
    rw [sout_B]
    exact scratch c n _

/-- What each grid point leaves in its output block. -/
theorem outs (c : Dev nD) (t : Fin cfg0.N) :
    (outsAt0 m c t.val t.isLt).1 = outv (H m c) (wblk t.val (iblk m c 2 t) (iblk m c 3 t)) (iblk m c 4 t) := by
  by_cases h0 : t.val % 10 = 0
  · have h10 := lt10 t
    obtain rfl : t = ⟨0, N_pos⟩ := Fin.ext (by dsimp only; omega)
    rw [outsAt0_A m c ⟨0, N_pos⟩ h0]
    dsimp only
    rw [out_A, coord]
    rfl
  · rw [outsAt0_B m c t h0]
    dsimp only
    rw [out_B, coord, scratch]

end Cert.KernelIdeal.Down
end
-- ==== Proof.Spec.lean ====
module
public import Idealize.ShloMosaic.Lib.Pointwise
public import Idealize.ShloMosaic.PureOps.Ideal
@[expose] public section
noncomputable section
namespace Cert.Down
open Idealize.ShloMosaic

/-- The dequantised activation of token `a` (both batches in one row range) at feature `k`: its code times its group's scale. -/
def act (hc : Vec Ideal ⟨3, ![2, 128, 17408]⟩ .fp8e4m3) (hs : Vec Ideal ⟨3, ![2, 128, 136]⟩ .f32) (a : Fin 256) (k : Fin 17408) : EReal :=
  hc (ix3 ⟨a.val / 128, by omega⟩ ⟨a.val % 128, by omega⟩ k) * hs (ix3 ⟨a.val / 128, by omega⟩ ⟨a.val % 128, by omega⟩ ⟨k.val / 128, by omega⟩)

/-- The dequantised weight at `(k, j)`: its code times the scale of its 128 by 128 tile. -/
def wt (w : Vec Ideal ⟨2, ![17408, 5120]⟩ .fp8e4m3) (ws : Vec Ideal ⟨2, ![136, 40]⟩ .f32) (k : Fin 17408) (j : Fin 5120) : EReal :=
  w (ix2 k j) * ws (ix2 ⟨k.val / 128, by omega⟩ ⟨j.val / 128, by omega⟩)

/-- The down projection with its residual, over the extended reals: what both programs compute. -/
def down (hc : Vec Ideal ⟨3, ![2, 128, 17408]⟩ .fp8e4m3) (hs : Vec Ideal ⟨3, ![2, 128, 136]⟩ .f32) (w : Vec Ideal ⟨2, ![17408, 5120]⟩ .fp8e4m3)
    (ws : Vec Ideal ⟨2, ![136, 40]⟩ .f32) (res : Vec Ideal ⟨3, ![2, 128, 5120]⟩ .bf16) : Vec Ideal ⟨2, ![256, 5120]⟩ .bf16 :=
  fun y => (res (ix3 ⟨(y 0).val / 128, by have : (y 0).val < 256 := (y 0).isLt; omega⟩ ⟨(y 0).val % 128, by omega⟩ (y 1)) : EReal)
    + ∑ k : Fin 17408, act hc hs (y 0) k * wt w ws k (y 1)
end Cert.Down
end
-- ==== Proof.KernelValue.lean ====
module
public import proofs.«01_k».proof.Proof.Blocks
public import proofs.«01_k».proof.Proof.Spec
@[expose] public section
noncomputable section
namespace Cert.KernelIdeal.Down
open Cert.KernelIdeal Cert.KernelIdeal.Gen Cert.KernelIdeal.Value Idealize.ShloMosaic Idealize.ShloMosaic.TcCoe Idealize.SL.Sem
open Idealize.ShloMosaic.Tactic Cert.Down

/-- One chunk's product, at an index: a sum over the chunk's 1024 features. -/
theorem chunkDot_apply (X : FVec Ideal S256x17408 .bf16) (W : FVec Ideal S17408x512 .bf16) (c : ℕ) (h : c < 17) (a : Fin 256) (j : Fin 512) :
    chunkDot X W c (ix2 a j) = ∑ k : Fin 1024, X (ix2 a ⟨1024 * c + k.val, by omega⟩) * W (ix2 ⟨1024 * c + k.val, by omega⟩ j) := by
  rw [chunkDot, dif_pos h]
  pointwise

/-- The accumulator after `n` chunks is the sum of their products. -/
theorem accum_apply (X : FVec Ideal S256x17408 .bf16) (W : FVec Ideal S17408x512 .bf16) (a : Fin 256) (j : Fin 512) :
    ∀ n, accum X W n (ix2 a j) = ∑ c ∈ Finset.range n, chunkDot X W c (ix2 a j)
  | 0 => by
    rw [accum]
    pointwise
    rw [Finset.sum_range_zero]
  | n + 1 => by
    rw [Finset.sum_range_succ, ← accum_apply X W a j n]
    rfl

/-- One feature's term of the product at `(a, j)`, over the natural numbers. -/
def term (X : FVec Ideal S256x17408 .bf16) (W : FVec Ideal S17408x512 .bf16) (a : Fin 256) (j : Fin 512) (k : ℕ) : EReal :=
  if h : k < 17408 then X (ix2 a ⟨k, h⟩) * W (ix2 ⟨k, h⟩ j) else 0

/-- Within the features, `term` is the product at that feature. -/
theorem term_of_lt (X : FVec Ideal S256x17408 .bf16) (W : FVec Ideal S17408x512 .bf16) (a : Fin 256) (j : Fin 512) (k : ℕ) (h : k < 17408) :
    term X W a j k = X (ix2 a ⟨k, h⟩) * W (ix2 ⟨k, h⟩ j) := dif_pos h

/-- The seventeen chunks together: one sum over all features. -/
theorem accum_all (X : FVec Ideal S256x17408 .bf16) (W : FVec Ideal S17408x512 .bf16) (a : Fin 256) (j : Fin 512) :
    accum X W 17 (ix2 a j) = ∑ k : Fin 17408, X (ix2 a k) * W (ix2 k j) := by
  have hr : ∑ k : Fin 17408, X (ix2 a k) * W (ix2 k j) = ∑ k ∈ Finset.range (17 * 1024), term X W a j k := by
    rw [← Fin.sum_univ_eq_sum_range (term X W a j)]
    exact Finset.sum_congr rfl fun k _ => (term_of_lt X W a j k.val k.isLt).symm
  have hc1 : ∀ c, c < 17 → chunkDot X W c (ix2 a j) = ∑ k ∈ Finset.range 1024, term X W a j (c * 1024 + k) := by
    intro c hc
    rw [chunkDot_apply _ _ c hc, ← Fin.sum_univ_eq_sum_range (fun k => term X W a j (c * 1024 + k))]
    refine Finset.sum_congr rfl fun k _ => ?_
    have hk := k.isLt
    rw [Nat.mul_comm c 1024, term_of_lt _ _ _ _ _ (by omega)]
  rw [accum_apply, hr, Finset.sum_range_mul_split]
  exact Finset.sum_congr rfl fun c hc => hc1 c (Finset.mem_range.mp hc)

variable (m : (ℓ : Loc nD τ sig) → Buf (Elt Ideal) ℓ)

/-- The scratch fill at an index: the code times the scale of its group. -/
theorem hblk_apply (x0 : Vec Ideal S256x17408 .fp8e4m3) (x1 : Vec Ideal S2x136x128 .f32) (a : Fin 256) (k : Fin 17408) :
    hblk x0 x1 (ix2 a k) = (x0 (ix2 a k) : EReal) * x1 (ix3 ⟨a.val / 128, by omega⟩ ⟨k.val / 128, by omega⟩ ⟨a.val % 128, by omega⟩) := by
  have ha := a.isLt
  unfold hblk hfill hsf k0_pay2
  pointwise
  by_cases h : a.val < 128
  · have e0 : (⟨a.val / 128, by omega⟩ : Fin 2) = 0 := Fin.ext (by show a.val / 128 = 0; omega)
    have e1 : (⟨a.val % 128, by omega⟩ : Fin 128) = ⟨a.val, h⟩ := Fin.ext (by show a.val % 128 = a.val; omega)
    rw [e0, e1, dif_pos h]
  · have e0 : (⟨a.val / 128, by omega⟩ : Fin 2) = 1 := Fin.ext (by show a.val / 128 = 1; omega)
    have e1 : (⟨a.val % 128, by omega⟩ : Fin 128) = ⟨a.val - 128, by omega⟩ := Fin.ext (by show a.val % 128 = a.val - 128; omega)
    rw [e0, e1, dif_neg h]

/-- A block's result at an index: the residual plus one sum over all features. -/
theorem outv_apply (X : FVec Ideal S256x17408 .bf16) (W : FVec Ideal S17408x512 .bf16) (x4 : Vec Ideal S256x512 .bf16) (a : Fin 256) (j : Fin 512) :
    outv X W x4 (ix2 a j) = (x4 (ix2 a j) : EReal) + ∑ k : Fin 17408, X (ix2 a k) * W (ix2 k j) := by
  rw [← accum_all]
  rfl

/-- The scratch at an index is the specification's activation. -/
theorem H_apply (c : Dev nD) (a : Fin 256) (k : Fin 17408) :
    H m c (ix2 a k) = act (m ((c : Thread nD τ).loc main_arg0)) (m ((c : Thread nD τ).loc main_arg1)) a k := by
  unfold H act
  rw [hblk_apply, blk0, blk1]

/-- The dequantised weight block at an index is the specification's weight. -/
theorem W_apply (c : Dev nD) (t : Fin cfg0.N) (k : Fin 17408) (j : Fin 512) :
    wblk t.val (iblk m c 2 t) (iblk m c 3 t) (ix2 k j)
      = wt (m ((c : Thread nD τ).loc main_arg2)) (m ((c : Thread nD τ).loc main_arg3)) k ⟨512 * t.val + j.val, by have := lt10 t; omega⟩ := by
  have h10 := lt10 t
  unfold wblk wts wt
  pointwise
  rw [dif_pos (by omega), blk2, blk3]
  have e : (⟨4 * t.val + j.val / 128, by omega⟩ : Fin 40) = ⟨(512 * t.val + j.val) / 128, by omega⟩ :=
    Fin.ext (by show 4 * t.val + j.val / 128 = (512 * t.val + j.val) / 128; omega)
  rw [e]

/-- Grid point `t`'s block is columns `512 t` to `512 t + 511` of the down projection. -/
theorem tile (c : Dev nD) (t : Fin cfg0.N) (a : Fin 256) (j : Fin 512) :
    outv (H m c) (wblk t.val (iblk m c 2 t) (iblk m c 3 t)) (iblk m c 4 t) (ix2 a j)
      = down (m ((c : Thread nD τ).loc main_arg0)) (m ((c : Thread nD τ).loc main_arg1)) (m ((c : Thread nD τ).loc main_arg2))
          (m ((c : Thread nD τ).loc main_arg3)) (m ((c : Thread nD τ).loc main_arg4))
          (ix2 a ⟨512 * t.val + j.val, by have := lt10 t; omega⟩) := by
  rw [outv_apply, blk4]
  show _ = _ + _
  refine congrArg₂ (fun p q : EReal => p + q) rfl (Finset.sum_congr rfl fun k _ => ?_)
  rw [H_apply, W_apply]
  rfl

/-- The kernel's result array is the down projection of its arguments. -/
theorem value (c : Dev nD) : G5 m c = down (m ((c : Thread nD τ).loc main_arg0)) (m ((c : Thread nD τ).loc main_arg1))
    (m ((c : Thread nD τ).loc main_arg2)) (m ((c : Thread nD τ).loc main_arg3)) (m ((c : Thread nD τ).loc main_arg4)) := by
  funext y
  have hy0 : (y 0).val < 256 := (y 0).isLt
  have hy1 : (y 1).val < 5120 := (y 1).isLt
  have hp : pt5Of y = (y 1).val / 512 := by show 10 * ((y 0).val / 256 - 0) + 1 * ((y 1).val / 512 - 0) = _; omega
  have hN : pt5Of y < cfg0.N := lt_of_lt_of_eq (by rw [hp]; omega) (show cfg0.N = 10 from N_0).symm
  have hl : loc5Of y = ix2 ⟨(y 0).val, hy0⟩ ⟨(y 1).val % 512, by omega⟩ := by
    funext b; apply Fin.ext
    match b with
    | ⟨0, _⟩ => show (y 0).val % 256 = (y 0).val; omega
    | ⟨1, _⟩ => rfl
  have hj : ix2 (⟨(y 0).val, hy0⟩ : Fin 256) (⟨512 * pt5Of y + (y 1).val % 512, by rw [hp]; omega⟩ : Fin 5120) = y := by
    funext b; apply Fin.ext
    match b with
    | ⟨0, _⟩ => rfl
    | ⟨1, _⟩ => show 512 * pt5Of y + (y 1).val % 512 = (y 1).val; rw [hp]; omega
  unfold G5
  rw [dif_pos hN, ← outsAt0_sweep m c (pt5Of y) hN, outs m c ⟨pt5Of y, hN⟩, hl, tile m c ⟨pt5Of y, hN⟩, hj]
end Cert.KernelIdeal.Down
end
-- ==== Proof.RefValue.lean ====
module
public import proofs.«01_k».proof.Proof.Gen.ReferenceIdeal.Value
public import Idealize.ShloMosaic.Lib.Pointwise
public import Idealize.ShloMosaic.Lib.Pipeline.ValueKit
public import Idealize.ShloMosaic.Lib.Claim
public import proofs.«01_k».proof.Proof.Spec
@[expose] public section
noncomputable section
namespace Cert.ReferenceIdeal.Down
open Cert.ReferenceIdeal Cert.ReferenceIdeal.Gen Cert.ReferenceIdeal.Value Idealize.ShloMosaic Idealize.ShloMosaic.TcCoe Idealize.SL.Sem
open Idealize.ShloMosaic.Tactic Cert.Down

/-- The reference body's result at an index: the residual plus one sum over all features. -/
theorem pay_apply (v0 : Vec Ideal S256x17408 .fp8e4m3) (v2 : Vec Ideal S256x136 .f32) (v11 : Vec Ideal S17408x5120 .fp8e4m3) (v12 : Vec Ideal S136x40 .f32)
    (v21 : Vec Ideal S256x5120 .bf16) (a : Fin 256) (j : Fin 5120) :
    k0_pay1 v0 v2 v11 v12 v21 (ix2 a j) = (v21 (ix2 a j) : EReal)
      + ∑ k : Fin 17408, ((v0 (ix2 a k) : EReal) * v2 (ix2 a ⟨k.val / 128, by omega⟩)) * ((v11 (ix2 k j) : EReal) * v12 (ix2 ⟨k.val / 128, by omega⟩ ⟨j.val / 128, by omega⟩)) := by
  unfold k0_pay1
  pointwise

/-- Window 0 of the reference is the whole array. -/
theorem idx0 (t : Fin cfg0.N) : win0_0.index t = ![0, 0] := (by decide +kernel : ∀ t : Fin grid0.N, win0_0.index t = ![0, 0]) t
/-- Window 1 of the reference is the whole array. -/
theorem idx1 (t : Fin cfg0.N) : win0_1.index t = ![0, 0] := (by decide +kernel : ∀ t : Fin grid0.N, win0_1.index t = ![0, 0]) t
/-- Window 2 of the reference is the whole array. -/
theorem idx2 (t : Fin cfg0.N) : win0_2.index t = ![0, 0] := (by decide +kernel : ∀ t : Fin grid0.N, win0_2.index t = ![0, 0]) t
/-- Window 3 of the reference is the whole array. -/
theorem idx3 (t : Fin cfg0.N) : win0_3.index t = ![0, 0] := (by decide +kernel : ∀ t : Fin grid0.N, win0_3.index t = ![0, 0]) t
/-- Window 4 of the reference is the whole array. -/
theorem idx4 (t : Fin cfg0.N) : win0_4.index t = ![0, 0] := (by decide +kernel : ∀ t : Fin grid0.N, win0_4.index t = ![0, 0]) t
/-- Window 5 of the reference is the whole array. -/
theorem idx5 (t : Fin cfg0.N) : win0_5.index t = ![0, 0] := (by decide +kernel : ∀ t : Fin grid0.N, win0_5.index t = ![0, 0]) t

variable (m : (ℓ : Loc nD τ sig) → Buf (Elt Ideal) ℓ)

/-- The codes, batch and row as one axis. -/
theorem blk0 (c : Dev nD) (t : Fin cfg0.N) (a : Fin 256) (k : Fin 17408) :
    iblk m c 0 t (ix2 a k) = m ((c : Thread nD τ).loc main_arg0) (ix3 ⟨a.val / 128, by omega⟩ ⟨a.val % 128, by omega⟩ k) := by
  have e : ((View.whole main_v0).slice (win0_0.rect t)).emb (ix2 a k) = ix2 a k := by blk_ext [idx0]
  show V m c main_v0 _ = _
  rw [e]
  entry_read
  pointwise
/-- The activation scales, batch and row as one axis. -/
theorem blk1 (c : Dev nD) (t : Fin cfg0.N) (a : Fin 256) (k : Fin 136) :
    iblk m c 1 t (ix2 a k) = m ((c : Thread nD τ).loc main_arg1) (ix3 ⟨a.val / 128, by omega⟩ ⟨a.val % 128, by omega⟩ k) := by
  have e : ((View.whole main_v1).slice (win0_1.rect t)).emb (ix2 a k) = ix2 a k := by blk_ext [idx1]
  show V m c main_v1 _ = _
  rw [e]
  entry_read
  pointwise
/-- The weight codes. -/
theorem blk2 (c : Dev nD) (t : Fin cfg0.N) (a : Fin 17408) (k : Fin 5120) :
    iblk m c 2 t (ix2 a k) = m ((c : Thread nD τ).loc main_arg2) (ix2 a k) := by
  have e : ((View.whole main_arg2).slice (win0_2.rect t)).emb (ix2 a k) = ix2 a k := by blk_ext [idx2]
  show V m c main_arg2 _ = _
  rw [e]
  entry_read
  pointwise
/-- The weight scales. -/
theorem blk3 (c : Dev nD) (t : Fin cfg0.N) (a : Fin 136) (k : Fin 40) :
    iblk m c 3 t (ix2 a k) = m ((c : Thread nD τ).loc main_arg3) (ix2 a k) := by
  have e : ((View.whole main_arg3).slice (win0_3.rect t)).emb (ix2 a k) = ix2 a k := by blk_ext [idx3]
  show V m c main_arg3 _ = _
  rw [e]
  entry_read
  pointwise
/-- The residual, batch and row as one axis. -/
theorem blk4 (c : Dev nD) (t : Fin cfg0.N) (a : Fin 256) (k : Fin 5120) :
    iblk m c 4 t (ix2 a k) = m ((c : Thread nD τ).loc main_arg4) (ix3 ⟨a.val / 128, by omega⟩ ⟨a.val % 128, by omega⟩ k) := by
  have e : ((View.whole main_v2).slice (win0_4.rect t)).emb (ix2 a k) = ix2 a k := by blk_ext [idx4]
  show V m c main_v2 _ = _
  rw [e]
  entry_read
  pointwise
/-- The reference body stores its one result into its output. -/
theorem out_eq (x0 : Vec Ideal S256x17408 .fp8e4m3) (x1 : Vec Ideal S256x136 .f32) (x2 : Vec Ideal S17408x5120 .fp8e4m3) (x3 : Vec Ideal S136x40 .f32)
    (x4 : Vec Ideal S256x5120 .bf16) : out0_5 x0 x1 x2 x3 x4 = k0_pay1 x0 x1 x2 x3 x4 := by
  frame_out

/-- The reference body's result is the down projection of the arguments. -/
theorem tile (c : Dev nD) (t : Fin cfg0.N) (y : S256x5120.Idx) :
    k0_pay1 (iblk m c 0 t) (iblk m c 1 t) (iblk m c 2 t) (iblk m c 3 t) (iblk m c 4 t) y
      = Cert.Down.down (m ((c : Thread nD τ).loc main_arg0)) (m ((c : Thread nD τ).loc main_arg1))
          (m ((c : Thread nD τ).loc main_arg2)) (m ((c : Thread nD τ).loc main_arg3))
          (m ((c : Thread nD τ).loc main_arg4)) ((win0_5.blk t).view.emb y) := by
  have e : (win0_5.blk t).view.emb y = y := by blk_ext [idx5]
  rw [e]
  obtain ⟨a, j, rfl⟩ : ∃ (a : Fin 256) (j : Fin 5120), y = ix2 a j := ⟨y 0, y 1, by blk_ext⟩
  rw [pay_apply, blk4]
  show _ = _ + _
  refine congrArg₂ (fun p q : EReal => p + q) rfl (Finset.sum_congr rfl fun k _ => ?_)
  rw [blk0, blk1, blk2, blk3]
  rfl

/-- The reference's result array is the down projection of its arguments. -/
theorem value (c : Dev nD) : (dats m 0 c).arrAt 5 cfg0.N = down (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5, out_eq]
  exact tile m c t y
end Cert.ReferenceIdeal.Down
end
-- ==== Proof.FloatPoints.lean ====
module

public import proofs.«01_k».proof.Proof.Gen.Qkv.Frame
public import proofs.«01_k».proof.Proof.Gen.Qkv.Skeleton
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Qkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The frame from a run of the pipeline: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Qkv`, Defs.lean, at any `F`). -/
theorem frame_of_post (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      (Pipeline.RDat.FramePost.arr_in h c 4 rfl).trans ((hA c 4).trans (V_main_arg2 m c)),
      (Pipeline.RDat.FramePost.arr_in h c 5 rfl).trans ((hA c 5).trans (V_main_arg3 m c)),
      (Pipeline.RDat.FramePost.arr_in h c 2 rfl).trans ((hA c 2).trans (V_main_arg4 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 6 = 0 :=
  (fun t => by
    have ht : t.val < 6 := Nat.lt_of_lt_of_eq t.isLt N_0
    have e0 : (grid0.coords t 0).val = t.val / 1 % 6 := Pipeline.Grid.coords_val t 0 (by decide) rfl
    simp only [cond0_0, k0_cond1, e0]
    word_cmp
   : ∀ t : Fin grid0.N, cond0_0 (grid0.coords t) ↔ t.val % 6 = 0)

/-- The condition of the body's `scf.if` 1 (`k0_h2`), from the grid coordinates (the skeleton's scalar
    chain substituted). -/
abbrev cond0_1 (i : grid0.Coords) : Prop := k0_cond2 i = 1#1
/-- It holds at the points before point 4 — decided over the grid. -/
theorem hcond0_1 : ∀ t : Fin cfg0.N, cond0_1 (grid0.coords t) ↔ t.val < 4 :=
  (by decide +kernel : ∀ t : Fin grid0.N, cond0_1 (grid0.coords t) ↔ t.val < 4)

/-- The condition of the body's `scf.if` 2 (`k0_h3`), from the grid coordinates (the skeleton's scalar
    chain substituted). -/
abbrev cond0_2 (i : grid0.Coords) : Prop := k0_cond3 i = 1#1
/-- It holds at point 4 only — by arithmetic of the point. -/
theorem hcond0_2 : ∀ t : Fin cfg0.N, cond0_2 (grid0.coords t) ↔ t.val % 6 = 4 :=
  (fun t => by
    have ht : t.val < 6 := Nat.lt_of_lt_of_eq t.isLt N_0
    have e0 : (grid0.coords t 0).val = t.val / 1 % 6 := Pipeline.Grid.coords_val t 0 (by decide) rfl
    simp only [cond0_2, k0_cond3, e0]
    word_cmp
   : ∀ t : Fin grid0.N, cond0_2 (grid0.coords t) ↔ t.val % 6 = 4)

/-- The condition of the body's `scf.if` 3 (`k0_h4`), from the grid coordinates (the skeleton's scalar
    chain substituted). -/
abbrev cond0_3 (i : grid0.Coords) : Prop := k0_cond4 i = 1#1
/-- It holds at the last point only — by arithmetic of the point. -/
theorem hcond0_3 : ∀ t : Fin cfg0.N, cond0_3 (grid0.coords t) ↔ t.val % 6 = 5 :=
  (fun t => by
    have ht : t.val < 6 := Nat.lt_of_lt_of_eq t.isLt N_0
    have e0 : (grid0.coords t 0).val = t.val / 1 % 6 := Pipeline.Grid.coords_val t 0 (by decide) rfl
    simp only [cond0_3, k0_cond4, e0]
    word_cmp
   : ∀ t : Fin grid0.N, cond0_3 (grid0.coords t) ↔ t.val % 6 = 5)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x5120 .bf16 := win0_0.stage (cfg0.slots t 0)
/-- The buffer of window 0 is a whole buffer. -/
abbrev hs0_0 (t : Fin cfg0.N) : (ms0_0 t).IsWhole := hstage0_0 ((cfg0.slots t 0).cast nbuf0_0)
/-- The buffer window 1 is staged in at point `t`. -/
abbrev ms0_1 (t : Fin cfg0.N) : Memref sig .tc .vmem S1x5120 .f32 := win0_1.stage (cfg0.slots t 1)
/-- The buffer of window 1 is a whole buffer. -/
abbrev hs0_1 (t : Fin cfg0.N) : (ms0_1 t).IsWhole := hstage0_1 ((cfg0.slots t 1).cast nbuf0_1)
/-- The buffer window 2 is staged in at point `t`. -/
abbrev ms0_2 (t : Fin cfg0.N) : Memref sig .tc .vmem S2x128 .i32 := win0_2.stage (cfg0.slots t 2)
/-- The buffer of window 2 is a whole buffer. -/
abbrev hs0_2 (t : Fin cfg0.N) : (ms0_2 t).IsWhole := hstage0_2 ((cfg0.slots t 2).cast nbuf0_2)
/-- The buffer window 3 is staged in at point `t`. -/
abbrev ms0_3 (t : Fin cfg0.N) : Memref sig .tc .vmem S80x1 .f32 := win0_3.stage (cfg0.slots t 3)
/-- The buffer of window 3 is a whole buffer. -/
abbrev hs0_3 (t : Fin cfg0.N) : (ms0_3 t).IsWhole := hstage0_3 ((cfg0.slots t 3).cast nbuf0_3)
/-- The buffer window 4 is staged in at point `t`. -/
abbrev ms0_4 (t : Fin cfg0.N) : Memref sig .tc .vmem S5120x1280 .fp8e4m3 := win0_4.stage (cfg0.slots t 4)
/-- The buffer of window 4 is a whole buffer. -/
abbrev hs0_4 (t : Fin cfg0.N) : (ms0_4 t).IsWhole := hstage0_4 ((cfg0.slots t 4).cast nbuf0_4)
/-- The buffer window 5 is staged in at point `t`. -/
abbrev ms0_5 (t : Fin cfg0.N) : Memref sig .tc .smem S40x60 .f32 := win0_5.stage (cfg0.slots t 5)
/-- The buffer of window 5 is a whole buffer. -/
abbrev hs0_5 (t : Fin cfg0.N) : (ms0_5 t).IsWhole := hstage0_5 ((cfg0.slots t 5).cast nbuf0_5)
/-- The buffer window 6 is staged in at point `t`. -/
abbrev ms0_6 (t : Fin cfg0.N) : Memref sig .tc .vmem S256x5120 .fp8e4m3 := win0_6.stage (cfg0.slots t 6)
/-- The buffer of window 6 is a whole buffer. -/
abbrev hs0_6 (t : Fin cfg0.N) : (ms0_6 t).IsWhole := hstage0_6 ((cfg0.slots t 6).cast nbuf0_6)
/-- The buffer window 7 is staged in at point `t`. -/
abbrev ms0_7 (t : Fin cfg0.N) : Memref sig .tc .vmem S2x40x128 .f32 := win0_7.stage (cfg0.slots t 7)
/-- The buffer of window 7 is a whole buffer. -/
abbrev hs0_7 (t : Fin cfg0.N) : (ms0_7 t).IsWhole := hstage0_7 ((cfg0.slots t 7).cast nbuf0_7)
/-- The buffer window 8 is staged in at point `t`. -/
abbrev ms0_8 (t : Fin cfg0.N) : Memref sig .tc .vmem S2x8x160x128 .bf16 := win0_8.stage (cfg0.slots t 8)
/-- The buffer of window 8 is a whole buffer. -/
abbrev hs0_8 (t : Fin cfg0.N) : (ms0_8 t).IsWhole := hstage0_8 ((cfg0.slots t 8).cast nbuf0_8)
/-- The buffer window 9 is staged in at point `t`. -/
abbrev ms0_9 (t : Fin cfg0.N) : Memref sig .tc .vmem S2x8x160x128 .fp8e4m3 := win0_9.stage (cfg0.slots t 9)
/-- The buffer of window 9 is a whole buffer. -/
abbrev hs0_9 (t : Fin cfg0.N) : (ms0_9 t).IsWhole := hstage0_9 ((cfg0.slots t 9).cast nbuf0_9)
/-- The buffer window 10 is staged in at point `t`. -/
abbrev ms0_10 (t : Fin cfg0.N) : Memref sig .tc .vmem S2x8x128 .f32 := win0_10.stage (cfg0.slots t 10)
/-- The buffer of window 10 is a whole buffer. -/
abbrev hs0_10 (t : Fin cfg0.N) : (ms0_10 t).IsWhole := hstage0_10 ((cfg0.slots t 10).cast nbuf0_10)
/-- The buffer window 11 is staged in at point `t`. -/
abbrev ms0_11 (t : Fin cfg0.N) : Memref sig .tc .vmem S2x8x160x128 .fp8e4m3 := win0_11.stage (cfg0.slots t 11)
/-- The buffer of window 11 is a whole buffer. -/
abbrev hs0_11 (t : Fin cfg0.N) : (ms0_11 t).IsWhole := hstage0_11 ((cfg0.slots t 11).cast nbuf0_11)
/-- The buffer window 12 is staged in at point `t`. -/
abbrev ms0_12 (t : Fin cfg0.N) : Memref sig .tc .vmem S2x8x128 .f32 := win0_12.stage (cfg0.slots t 12)
/-- The buffer of window 12 is a whole buffer. -/
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S256x5120 .bf16 := Memref.whole cc0_scratch0
/-- The second scratch operand, as a whole buffer. -/
abbrev scM0_1 : Memref sig .tc .vmem S2x80x128 .f32 := Memref.whole cc0_scratch1
/-- The third scratch operand, as a whole buffer. -/
abbrev scM0_2 : Memref sig .tc .vmem S2x80x128 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Qkv.Gen

end
-- ==== Proof.FloatRunA.lean ====
module

public import proofs.«01_k».proof.Proof.FloatPoints

@[expose] public section

-- membership in a rectangle of production extents (`View.cover_of_tiled`): the elaborator's structural look
-- recurses once per coordinate of the long axes
set_option maxRecDepth 16384

noncomputable section

namespace Cert.Qkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 11584000 in
/-- The body's triple in case A (`scf.if` 0 taken, `scf.if` 1 taken, `scf.if` 2 not taken, `scf.if` 3 not taken: points 0): on whole staging memrefs — the inputs' at their contents,
    the outputs' (6 to 12) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S256x5120 .bf16) (harg1 : arg1.IsWhole) (arg2 : Memref sig .tc .vmem S1x5120 .f32) (harg2 : arg2.IsWhole) (arg3 : Memref sig .tc .vmem S2x128 .i32) (harg3 : arg3.IsWhole) (arg4 : Memref sig .tc .vmem S80x1 .f32) (harg4 : arg4.IsWhole) (arg5 : Memref sig .tc .vmem S5120x1280 .fp8e4m3) (harg5 : arg5.IsWhole) (arg6 : Memref sig .tc .smem S40x60 .f32) (harg6 : arg6.IsWhole) (arg7 : Memref sig .tc .vmem S256x5120 .fp8e4m3) (harg7 : arg7.IsWhole) (arg8 : Memref sig .tc .vmem S2x40x128 .f32) (harg8 : arg8.IsWhole) (arg9 : Memref sig .tc .vmem S2x8x160x128 .bf16) (harg9 : arg9.IsWhole) (arg10 : Memref sig .tc .vmem S2x8x160x128 .fp8e4m3) (harg10 : arg10.IsWhole) (arg11 : Memref sig .tc .vmem S2x8x128 .f32) (harg11 : arg11.IsWhole) (arg12 : Memref sig .tc .vmem S2x8x160x128 .fp8e4m3) (harg12 : arg12.IsWhole) (arg13 : Memref sig .tc .vmem S2x8x128 .f32) (harg13 : arg13.IsWhole) (arg14 : Memref sig .tc .vmem S256x5120 .bf16) (harg14 : arg14.IsWhole) (arg15 : Memref sig .tc .vmem S2x80x128 .f32) (harg15 : arg15.IsWhole) (arg16 : Memref sig .tc .vmem S2x80x128 .f32) (harg16 : arg16.IsWhole) (hc0 : cond0_0 i) (hc1 : cond0_1 i) (hc2 : ¬cond0_2 i) (hc3 : ¬cond0_3 i)
    (x0 : Vec F S256x5120 .bf16) (x1 : Vec F S1x5120 .f32) (x2 : Vec F S2x128 .i32) (x3 : Vec F S80x1 .f32) (x4 : Vec F S5120x1280 .fp8e4m3) (x5 : Vec F S40x60 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_qkv_eq_skeleton]; unfold cc0_qkv_skel
    simp only [k0_part308_eq_skeleton, k0_part213_eq_skeleton, k0_part115_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part116_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part117_eq_skeleton, k0_part118_eq_skeleton, k0_part119_eq_skeleton, k0_part120_eq_skeleton, k0_part121_eq_skeleton, k0_part122_eq_skeleton, k0_part123_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Qkv.Gen

end
-- ==== Proof.FloatRunB.lean ====
module

public import proofs.«01_k».proof.Proof.FloatRunA

@[expose] public section

-- membership in a rectangle of production extents (`View.cover_of_tiled`): the elaborator's structural look
-- recurses once per coordinate of the long axes
set_option maxRecDepth 16384

noncomputable section

namespace Cert.Qkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 9252000 in
/-- The body's triple in case B (`scf.if` 0 not taken, `scf.if` 1 taken, `scf.if` 2 not taken, `scf.if` 3 not taken: points 1, 2, 3): on whole staging memrefs — the inputs' at their contents,
    the outputs' (6 to 12) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S256x5120 .bf16) (harg1 : arg1.IsWhole) (arg2 : Memref sig .tc .vmem S1x5120 .f32) (harg2 : arg2.IsWhole) (arg3 : Memref sig .tc .vmem S2x128 .i32) (harg3 : arg3.IsWhole) (arg4 : Memref sig .tc .vmem S80x1 .f32) (harg4 : arg4.IsWhole) (arg5 : Memref sig .tc .vmem S5120x1280 .fp8e4m3) (harg5 : arg5.IsWhole) (arg6 : Memref sig .tc .smem S40x60 .f32) (harg6 : arg6.IsWhole) (arg7 : Memref sig .tc .vmem S256x5120 .fp8e4m3) (harg7 : arg7.IsWhole) (arg8 : Memref sig .tc .vmem S2x40x128 .f32) (harg8 : arg8.IsWhole) (arg9 : Memref sig .tc .vmem S2x8x160x128 .bf16) (harg9 : arg9.IsWhole) (arg10 : Memref sig .tc .vmem S2x8x160x128 .fp8e4m3) (harg10 : arg10.IsWhole) (arg11 : Memref sig .tc .vmem S2x8x128 .f32) (harg11 : arg11.IsWhole) (arg12 : Memref sig .tc .vmem S2x8x160x128 .fp8e4m3) (harg12 : arg12.IsWhole) (arg13 : Memref sig .tc .vmem S2x8x128 .f32) (harg13 : arg13.IsWhole) (arg14 : Memref sig .tc .vmem S256x5120 .bf16) (harg14 : arg14.IsWhole) (arg15 : Memref sig .tc .vmem S2x80x128 .f32) (harg15 : arg15.IsWhole) (arg16 : Memref sig .tc .vmem S2x80x128 .f32) (harg16 : arg16.IsWhole) (hc0 : ¬cond0_0 i) (hc1 : cond0_1 i) (hc2 : ¬cond0_2 i) (hc3 : ¬cond0_3 i)
    (x0 : Vec F S256x5120 .bf16) (x1 : Vec F S1x5120 .f32) (x2 : Vec F S2x128 .i32) (x3 : Vec F S80x1 .f32) (x4 : Vec F S5120x1280 .fp8e4m3) (x5 : Vec F S40x60 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_qkv_eq_skeleton]; unfold cc0_qkv_skel
    simp only [k0_part308_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part117_eq_skeleton, k0_part118_eq_skeleton, k0_part119_eq_skeleton, k0_part120_eq_skeleton, k0_part121_eq_skeleton, k0_part122_eq_skeleton, k0_part123_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Qkv.Gen

end
-- ==== Proof.FloatRunC.lean ====
module

public import proofs.«01_k».proof.Proof.FloatRunB

@[expose] public section

-- membership in a rectangle of production extents (`View.cover_of_tiled`): the elaborator's structural look
-- recurses once per coordinate of the long axes
set_option maxRecDepth 16384

noncomputable section

namespace Cert.Qkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 9840000 in
/-- The body's triple in case C (`scf.if` 0 not taken, `scf.if` 1 not taken, `scf.if` 2 taken, `scf.if` 3 not taken: points 4): on whole staging memrefs — the inputs' at their contents,
    the outputs' (6 to 12) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_C (c : Dev nD) (i : grid0.Coords) (arg1 : Memref sig .tc .vmem S256x5120 .bf16) (harg1 : arg1.IsWhole) (arg2 : Memref sig .tc .vmem S1x5120 .f32) (harg2 : arg2.IsWhole) (arg3 : Memref sig .tc .vmem S2x128 .i32) (harg3 : arg3.IsWhole) (arg4 : Memref sig .tc .vmem S80x1 .f32) (harg4 : arg4.IsWhole) (arg5 : Memref sig .tc .vmem S5120x1280 .fp8e4m3) (harg5 : arg5.IsWhole) (arg6 : Memref sig .tc .smem S40x60 .f32) (harg6 : arg6.IsWhole) (arg7 : Memref sig .tc .vmem S256x5120 .fp8e4m3) (harg7 : arg7.IsWhole) (arg8 : Memref sig .tc .vmem S2x40x128 .f32) (harg8 : arg8.IsWhole) (arg9 : Memref sig .tc .vmem S2x8x160x128 .bf16) (harg9 : arg9.IsWhole) (arg10 : Memref sig .tc .vmem S2x8x160x128 .fp8e4m3) (harg10 : arg10.IsWhole) (arg11 : Memref sig .tc .vmem S2x8x128 .f32) (harg11 : arg11.IsWhole) (arg12 : Memref sig .tc .vmem S2x8x160x128 .fp8e4m3) (harg12 : arg12.IsWhole) (arg13 : Memref sig .tc .vmem S2x8x128 .f32) (harg13 : arg13.IsWhole) (arg14 : Memref sig .tc .vmem S256x5120 .bf16) (harg14 : arg14.IsWhole) (arg15 : Memref sig .tc .vmem S2x80x128 .f32) (harg15 : arg15.IsWhole) (arg16 : Memref sig .tc .vmem S2x80x128 .f32) (harg16 : arg16.IsWhole) (hc0 : ¬cond0_0 i) (hc1 : ¬cond0_1 i) (hc2 : cond0_2 i) (hc3 : ¬cond0_3 i)
    (x0 : Vec F S256x5120 .bf16) (x1 : Vec F S1x5120 .f32) (x2 : Vec F S2x128 .i32) (x3 : Vec F S80x1 .f32) (x4 : Vec F S5120x1280 .fp8e4m3) (x5 : Vec F S40x60 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_qkv_eq_skeleton]; unfold cc0_qkv_skel
    simp only [k0_part308_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part170_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Qkv.Gen

end
-- ==== Proof.FloatRunD.lean ====
module

public import proofs.«01_k».proof.Proof.FloatRunC

@[expose] public section

-- membership in a rectangle of production extents (`View.cover_of_tiled`): the elaborator's structural look
-- recurses once per coordinate of the long axes
set_option maxRecDepth 16384

noncomputable section

namespace Cert.Qkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 9660000 in
/-- The body's triple in case D (`scf.if` 0 not taken, `scf.if` 1 not taken, `scf.if` 2 not taken, `scf.if` 3 taken: points 5): on whole staging memrefs — the inputs' at their contents,
    the outputs' (6 to 12) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_D (c : Dev nD) (i : grid0.Coords) (arg1 : Memref sig .tc .vmem S256x5120 .bf16) (harg1 : arg1.IsWhole) (arg2 : Memref sig .tc .vmem S1x5120 .f32) (harg2 : arg2.IsWhole) (arg3 : Memref sig .tc .vmem S2x128 .i32) (harg3 : arg3.IsWhole) (arg4 : Memref sig .tc .vmem S80x1 .f32) (harg4 : arg4.IsWhole) (arg5 : Memref sig .tc .vmem S5120x1280 .fp8e4m3) (harg5 : arg5.IsWhole) (arg6 : Memref sig .tc .smem S40x60 .f32) (harg6 : arg6.IsWhole) (arg7 : Memref sig .tc .vmem S256x5120 .fp8e4m3) (harg7 : arg7.IsWhole) (arg8 : Memref sig .tc .vmem S2x40x128 .f32) (harg8 : arg8.IsWhole) (arg9 : Memref sig .tc .vmem S2x8x160x128 .bf16) (harg9 : arg9.IsWhole) (arg10 : Memref sig .tc .vmem S2x8x160x128 .fp8e4m3) (harg10 : arg10.IsWhole) (arg11 : Memref sig .tc .vmem S2x8x128 .f32) (harg11 : arg11.IsWhole) (arg12 : Memref sig .tc .vmem S2x8x160x128 .fp8e4m3) (harg12 : arg12.IsWhole) (arg13 : Memref sig .tc .vmem S2x8x128 .f32) (harg13 : arg13.IsWhole) (arg14 : Memref sig .tc .vmem S256x5120 .bf16) (harg14 : arg14.IsWhole) (arg15 : Memref sig .tc .vmem S2x80x128 .f32) (harg15 : arg15.IsWhole) (arg16 : Memref sig .tc .vmem S2x80x128 .f32) (harg16 : arg16.IsWhole) (hc0 : ¬cond0_0 i) (hc1 : ¬cond0_1 i) (hc2 : ¬cond0_2 i) (hc3 : cond0_3 i)
    (x0 : Vec F S256x5120 .bf16) (x1 : Vec F S1x5120 .f32) (x2 : Vec F S2x128 .i32) (x3 : Vec F S80x1 .f32) (x4 : Vec F S5120x1280 .fp8e4m3) (x5 : Vec F S40x60 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_qkv_eq_skeleton]; unfold cc0_qkv_skel
    simp only [k0_part308_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part212_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Qkv.Gen

end
-- ==== Proof.FloatFrame.lean ====
module

public import proofs.«01_k».proof.Proof.FloatRunD
public import Idealize.ShloMosaic.Lib.Claim

@[expose] public section

-- membership in a rectangle of production extents (`View.cover_of_tiled`): the elaborator's structural look
-- recurses once per coordinate of the long axes
set_option maxRecDepth 16384

noncomputable section

namespace Cert.Qkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows whose contents the frame does not name (6 to 12): nothing reads what the kernel leaves in them, so nothing
    of it is named (Lib/Pipeline/Dat.lean `Dat.toRForget`). -/
def forgets0 : Fin 13 → Bool := fun w => w.val == 6 || w.val == 7 || w.val == 8 || w.val == 9 || w.val == 10 || w.val == 11 || w.val == 12

/-- The proof data of the one pipeline on core `c`: the arrays as the region finds them (`V`); after the body at
    point `t` each input's buffer at its block and the outputs it does not name at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- The body leaves input window 1 at its block. -/
theorem after0_1 (c : Dev nD) (t : Fin cfg0.N) : (dats m 0 c).after 1 t = iblk m c 1 t := by dsimp only [dats]
/-- The body leaves input window 2 at its block. -/
theorem after0_2 (c : Dev nD) (t : Fin cfg0.N) : (dats m 0 c).after 2 t = iblk m c 2 t := by dsimp only [dats]
/-- The body leaves input window 3 at its block. -/
theorem after0_3 (c : Dev nD) (t : Fin cfg0.N) : (dats m 0 c).after 3 t = iblk m c 3 t := by dsimp only [dats]
/-- The body leaves input window 4 at its block. -/
theorem after0_4 (c : Dev nD) (t : Fin cfg0.N) : (dats m 0 c).after 4 t = iblk m c 4 t := by dsimp only [dats]
/-- The body leaves input window 5 at its block. -/
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- The body finds input window 1 at its block. -/
theorem before0_1 (c : Dev nD) (t : Fin cfg0.N) (d) : (dats m 0 c).before 1 t d = iblk m c 1 t :=
  before0_1_of m (dats m 0 c) (A_eq m c 1) (after0_1 m c) t d
/-- The body finds input window 2 at its block. -/
theorem before0_2 (c : Dev nD) (t : Fin cfg0.N) (d) : (dats m 0 c).before 2 t d = iblk m c 2 t :=
  before0_2_of m (dats m 0 c) (A_eq m c 2) (after0_2 m c) t d
/-- The body finds input window 3 at its block. -/
theorem before0_3 (c : Dev nD) (t : Fin cfg0.N) (d) : (dats m 0 c).before 3 t d = iblk m c 3 t :=
  before0_3_of m (dats m 0 c) (A_eq m c 3) (after0_3 m c) t d
/-- The body finds input window 4 at its block. -/
theorem before0_4 (c : Dev nD) (t : Fin cfg0.N) (d) : (dats m 0 c).before 4 t d = iblk m c 4 t :=
  before0_4_of m (dats m 0 c) (A_eq m c 4) (after0_4 m c) t d
/-- The body finds input window 5 at its block. -/
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d))

set_option maxHeartbeats 6400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 6 := lt_of_lt_of_eq t.isLt (show cfg0.N = 6 from N_0)
  by_cases h0 : t.val % 6 = 0
  · by_cases h1 : t.val < 4
    · by_cases h2 : t.val % 6 = 4
      · exfalso; omega
      · by_cases h3 : t.val % 6 = 5
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
          iapply ((kernelRun0_A c (grid0.coords t) _ _ _ _ _ _ _ _ _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexists _; iexact H7
          isplitl [H8]; · iexists _; iexact H8
          isplitl [H9]; · iexists _; iexact H9
          isplitl [H10]; · iexists _; iexact H10
          isplitl [H11]; · iexists _; iexact H11
          isplitl [H12]; · iexists _; iexact H12
          isplitl [HS0]; · iexact HS0
          isplitl [HS1]; · iexact HS1
          isplitl [HS2]; · iexact HS2
          iintro ⟨H0, H1, H2, H3, H4, H5, H6, H7, H8, H9, H10, H11, H12, HS0, HS1, HS2⟩
          isplitl [HS0 HS1 HS2 Hg]
          · isplitl [HS0 HS1 HS2]
            · isplitl [HS0]
              · iexact HS0
              isplitl [HS1]
              · iexact HS1
              iexact HS2
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          iexact H12
    · exfalso; omega
  · by_cases h1 : t.val < 4
    · by_cases h2 : t.val % 6 = 4
      · exfalso; omega
      · by_cases h3 : t.val % 6 = 5
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
          iapply ((kernelRun0_B c (grid0.coords t) _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexists _; iexact H7
          isplitl [H8]; · iexists _; iexact H8
          isplitl [H9]; · iexists _; iexact H9
          isplitl [H10]; · iexists _; iexact H10
          isplitl [H11]; · iexists _; iexact H11
          isplitl [H12]; · iexists _; iexact H12
          isplitl [HS0]; · iexact HS0
          isplitl [HS1]; · iexact HS1
          isplitl [HS2]; · iexact HS2
          iintro ⟨H0, H1, H2, H3, H4, H5, H6, H7, H8, H9, H10, H11, H12, HS0, HS1, HS2⟩
          isplitl [HS0 HS1 HS2 Hg]
          · isplitl [HS0 HS1 HS2]
            · isplitl [HS0]
              · iexact HS0
              isplitl [HS1]
              · iexact HS1
              iexact HS2
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          iexact H12
    · by_cases h2 : t.val % 6 = 4
      · by_cases h3 : t.val % 6 = 5
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
          iapply ((kernelRun0_C c (grid0.coords t) _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexists _; iexact H7
          isplitl [H8]; · iexists _; iexact H8
          isplitl [H9]; · iexists _; iexact H9
          isplitl [H10]; · iexists _; iexact H10
          isplitl [H11]; · iexists _; iexact H11
          isplitl [H12]; · iexists _; iexact H12
          isplitl [HS0]; · iexact HS0
          isplitl [HS1]; · iexact HS1
          isplitl [HS2]; · iexact HS2
          iintro ⟨H0, H1, H2, H3, H4, H5, H6, H7, H8, H9, H10, H11, H12, HS0, HS1, HS2⟩
          isplitl [HS0 HS1 HS2 Hg]
          · isplitl [HS0 HS1 HS2]
            · isplitl [HS0]
              · iexact HS0
              isplitl [HS1]
              · iexact HS1
              iexact HS2
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          iexact H12
      · by_cases h3 : t.val % 6 = 5
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
          iapply ((kernelRun0_D c (grid0.coords t) _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexists _; iexact H7
          isplitl [H8]; · iexists _; iexact H8
          isplitl [H9]; · iexists _; iexact H9
          isplitl [H10]; · iexists _; iexact H10
          isplitl [H11]; · iexists _; iexact H11
          isplitl [H12]; · iexists _; iexact H12
          isplitl [HS0]; · iexact HS0
          isplitl [HS1]; · iexact HS1
          isplitl [HS2]; · iexact HS2
          iintro ⟨H0, H1, H2, H3, H4, H5, H6, H7, H8, H9, H10, H11, H12, HS0, HS1, HS2⟩
          isplitl [HS0 HS1 HS2 Hg]
          · isplitl [HS0 HS1 HS2]
            · isplitl [HS0]
              · iexact HS0
              isplitl [HS1]
              · iexact HS1
              iexact HS2
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          iexact H12
        · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- The launch: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    unnamed outputs (windows 6 to 12) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of_post m ρ (fun c => (dats m 0 c).toRForget forgets0) (A_eq m) (run_main m ρ)

/-- The arguments end unchanged and every semaphore counter ends at zero, at any reading of the numbers. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Qkv.Gen

end
-- ==== Proof.QkvPoints.lean ====
module

public import proofs.«01_k».proof.Proof.Gen.QkvIdeal.Frame
public import proofs.«01_k».proof.Proof.Gen.QkvIdeal.Skeleton
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The frame from a run of the pipeline: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_QkvIdeal`, Defs.lean, at any `F`). -/
theorem frame_of_post (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      (Pipeline.RDat.FramePost.arr_in h c 4 rfl).trans ((hA c 4).trans (V_main_arg2 m c)),
      (Pipeline.RDat.FramePost.arr_in h c 5 rfl).trans ((hA c 5).trans (V_main_arg3 m c)),
      (Pipeline.RDat.FramePost.arr_in h c 2 rfl).trans ((hA c 2).trans (V_main_arg4 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 6 = 0 :=
  (fun t => by
    have ht : t.val < 6 := Nat.lt_of_lt_of_eq t.isLt N_0
    have e0 : (grid0.coords t 0).val = t.val / 1 % 6 := Pipeline.Grid.coords_val t 0 (by decide) rfl
    simp only [cond0_0, k0_cond1, e0]
    word_cmp
   : ∀ t : Fin grid0.N, cond0_0 (grid0.coords t) ↔ t.val % 6 = 0)

/-- The condition of the body's `scf.if` 1 (`k0_h2`), from the grid coordinates (the skeleton's scalar
    chain substituted). -/
abbrev cond0_1 (i : grid0.Coords) : Prop := k0_cond2 i = 1#1
/-- It holds at the points before point 4 — decided over the grid. -/
theorem hcond0_1 : ∀ t : Fin cfg0.N, cond0_1 (grid0.coords t) ↔ t.val < 4 :=
  (by decide +kernel : ∀ t : Fin grid0.N, cond0_1 (grid0.coords t) ↔ t.val < 4)

/-- The condition of the body's `scf.if` 2 (`k0_h3`), from the grid coordinates (the skeleton's scalar
    chain substituted). -/
abbrev cond0_2 (i : grid0.Coords) : Prop := k0_cond3 i = 1#1
/-- It holds at point 4 only — by arithmetic of the point. -/
theorem hcond0_2 : ∀ t : Fin cfg0.N, cond0_2 (grid0.coords t) ↔ t.val % 6 = 4 :=
  (fun t => by
    have ht : t.val < 6 := Nat.lt_of_lt_of_eq t.isLt N_0
    have e0 : (grid0.coords t 0).val = t.val / 1 % 6 := Pipeline.Grid.coords_val t 0 (by decide) rfl
    simp only [cond0_2, k0_cond3, e0]
    word_cmp
   : ∀ t : Fin grid0.N, cond0_2 (grid0.coords t) ↔ t.val % 6 = 4)

/-- The condition of the body's `scf.if` 3 (`k0_h4`), from the grid coordinates (the skeleton's scalar
    chain substituted). -/
abbrev cond0_3 (i : grid0.Coords) : Prop := k0_cond4 i = 1#1
/-- It holds at the last point only — by arithmetic of the point. -/
theorem hcond0_3 : ∀ t : Fin cfg0.N, cond0_3 (grid0.coords t) ↔ t.val % 6 = 5 :=
  (fun t => by
    have ht : t.val < 6 := Nat.lt_of_lt_of_eq t.isLt N_0
    have e0 : (grid0.coords t 0).val = t.val / 1 % 6 := Pipeline.Grid.coords_val t 0 (by decide) rfl
    simp only [cond0_3, k0_cond4, e0]
    word_cmp
   : ∀ t : Fin grid0.N, cond0_3 (grid0.coords t) ↔ t.val % 6 = 5)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x5120 .bf16 := win0_0.stage (cfg0.slots t 0)
/-- The buffer of window 0 is a whole buffer. -/
abbrev hs0_0 (t : Fin cfg0.N) : (ms0_0 t).IsWhole := hstage0_0 ((cfg0.slots t 0).cast nbuf0_0)
/-- The buffer window 1 is staged in at point `t`. -/
abbrev ms0_1 (t : Fin cfg0.N) : Memref sig .tc .vmem S1x5120 .f32 := win0_1.stage (cfg0.slots t 1)
/-- The buffer of window 1 is a whole buffer. -/
abbrev hs0_1 (t : Fin cfg0.N) : (ms0_1 t).IsWhole := hstage0_1 ((cfg0.slots t 1).cast nbuf0_1)
/-- The buffer window 2 is staged in at point `t`. -/
abbrev ms0_2 (t : Fin cfg0.N) : Memref sig .tc .vmem S2x128 .i32 := win0_2.stage (cfg0.slots t 2)
/-- The buffer of window 2 is a whole buffer. -/
abbrev hs0_2 (t : Fin cfg0.N) : (ms0_2 t).IsWhole := hstage0_2 ((cfg0.slots t 2).cast nbuf0_2)
/-- The buffer window 3 is staged in at point `t`. -/
abbrev ms0_3 (t : Fin cfg0.N) : Memref sig .tc .vmem S80x1 .f32 := win0_3.stage (cfg0.slots t 3)
/-- The buffer of window 3 is a whole buffer. -/
abbrev hs0_3 (t : Fin cfg0.N) : (ms0_3 t).IsWhole := hstage0_3 ((cfg0.slots t 3).cast nbuf0_3)
/-- The buffer window 4 is staged in at point `t`. -/
abbrev ms0_4 (t : Fin cfg0.N) : Memref sig .tc .vmem S5120x1280 .fp8e4m3 := win0_4.stage (cfg0.slots t 4)
/-- The buffer of window 4 is a whole buffer. -/
abbrev hs0_4 (t : Fin cfg0.N) : (ms0_4 t).IsWhole := hstage0_4 ((cfg0.slots t 4).cast nbuf0_4)
/-- The buffer window 5 is staged in at point `t`. -/
abbrev ms0_5 (t : Fin cfg0.N) : Memref sig .tc .smem S40x60 .f32 := win0_5.stage (cfg0.slots t 5)
/-- The buffer of window 5 is a whole buffer. -/
abbrev hs0_5 (t : Fin cfg0.N) : (ms0_5 t).IsWhole := hstage0_5 ((cfg0.slots t 5).cast nbuf0_5)
/-- The buffer window 6 is staged in at point `t`. -/
abbrev ms0_6 (t : Fin cfg0.N) : Memref sig .tc .vmem S256x5120 .fp8e4m3 := win0_6.stage (cfg0.slots t 6)
/-- The buffer of window 6 is a whole buffer. -/
abbrev hs0_6 (t : Fin cfg0.N) : (ms0_6 t).IsWhole := hstage0_6 ((cfg0.slots t 6).cast nbuf0_6)
/-- The buffer window 7 is staged in at point `t`. -/
abbrev ms0_7 (t : Fin cfg0.N) : Memref sig .tc .vmem S2x40x128 .f32 := win0_7.stage (cfg0.slots t 7)
/-- The buffer of window 7 is a whole buffer. -/
abbrev hs0_7 (t : Fin cfg0.N) : (ms0_7 t).IsWhole := hstage0_7 ((cfg0.slots t 7).cast nbuf0_7)
/-- The buffer window 8 is staged in at point `t`. -/
abbrev ms0_8 (t : Fin cfg0.N) : Memref sig .tc .vmem S2x8x160x128 .bf16 := win0_8.stage (cfg0.slots t 8)
/-- The buffer of window 8 is a whole buffer. -/
abbrev hs0_8 (t : Fin cfg0.N) : (ms0_8 t).IsWhole := hstage0_8 ((cfg0.slots t 8).cast nbuf0_8)
/-- The buffer window 9 is staged in at point `t`. -/
abbrev ms0_9 (t : Fin cfg0.N) : Memref sig .tc .vmem S2x8x160x128 .fp8e4m3 := win0_9.stage (cfg0.slots t 9)
/-- The buffer of window 9 is a whole buffer. -/
abbrev hs0_9 (t : Fin cfg0.N) : (ms0_9 t).IsWhole := hstage0_9 ((cfg0.slots t 9).cast nbuf0_9)
/-- The buffer window 10 is staged in at point `t`. -/
abbrev ms0_10 (t : Fin cfg0.N) : Memref sig .tc .vmem S2x8x128 .f32 := win0_10.stage (cfg0.slots t 10)
/-- The buffer of window 10 is a whole buffer. -/
abbrev hs0_10 (t : Fin cfg0.N) : (ms0_10 t).IsWhole := hstage0_10 ((cfg0.slots t 10).cast nbuf0_10)
/-- The buffer window 11 is staged in at point `t`. -/
abbrev ms0_11 (t : Fin cfg0.N) : Memref sig .tc .vmem S2x8x160x128 .fp8e4m3 := win0_11.stage (cfg0.slots t 11)
/-- The buffer of window 11 is a whole buffer. -/
abbrev hs0_11 (t : Fin cfg0.N) : (ms0_11 t).IsWhole := hstage0_11 ((cfg0.slots t 11).cast nbuf0_11)
/-- The buffer window 12 is staged in at point `t`. -/
abbrev ms0_12 (t : Fin cfg0.N) : Memref sig .tc .vmem S2x8x128 .f32 := win0_12.stage (cfg0.slots t 12)
/-- The buffer of window 12 is a whole buffer. -/
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S256x5120 .bf16 := Memref.whole cc0_scratch0
/-- The second scratch operand, as a whole buffer. -/
abbrev scM0_1 : Memref sig .tc .vmem S2x80x128 .f32 := Memref.whole cc0_scratch1
/-- The third scratch operand, as a whole buffer. -/
abbrev scM0_2 : Memref sig .tc .vmem S2x80x128 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.QkvIdeal.Gen

end
-- ==== Proof.QkvRunA.lean ====
module

public import proofs.«01_k».proof.Proof.QkvPoints

@[expose] public section

-- membership in a rectangle of production extents (`View.cover_of_tiled`): the elaborator's structural look
-- recurses once per coordinate of the long axes
set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 911584000 in
/-- The body's triple in case A (`scf.if` 0 taken, `scf.if` 1 taken, `scf.if` 2 not taken, `scf.if` 3 not taken: points 0): on whole staging memrefs — the inputs' at their contents,
    the unnamed outputs' at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
noncomputable def kernelRun0_A (c : Dev nD) (i : grid0.Coords) (arg1 : Memref sig .tc .vmem S256x5120 .bf16) (harg1 : arg1.IsWhole) (arg2 : Memref sig .tc .vmem S1x5120 .f32) (harg2 : arg2.IsWhole) (arg3 : Memref sig .tc .vmem S2x128 .i32) (harg3 : arg3.IsWhole) (arg4 : Memref sig .tc .vmem S80x1 .f32) (harg4 : arg4.IsWhole) (arg5 : Memref sig .tc .vmem S5120x1280 .fp8e4m3) (harg5 : arg5.IsWhole) (arg6 : Memref sig .tc .smem S40x60 .f32) (harg6 : arg6.IsWhole) (arg7 : Memref sig .tc .vmem S256x5120 .fp8e4m3) (harg7 : arg7.IsWhole) (arg8 : Memref sig .tc .vmem S2x40x128 .f32) (harg8 : arg8.IsWhole) (arg9 : Memref sig .tc .vmem S2x8x160x128 .bf16) (harg9 : arg9.IsWhole) (arg10 : Memref sig .tc .vmem S2x8x160x128 .fp8e4m3) (harg10 : arg10.IsWhole) (arg11 : Memref sig .tc .vmem S2x8x128 .f32) (harg11 : arg11.IsWhole) (arg12 : Memref sig .tc .vmem S2x8x160x128 .fp8e4m3) (harg12 : arg12.IsWhole) (arg13 : Memref sig .tc .vmem S2x8x128 .f32) (harg13 : arg13.IsWhole) (arg14 : Memref sig .tc .vmem S256x5120 .bf16) (harg14 : arg14.IsWhole) (arg15 : Memref sig .tc .vmem S2x80x128 .f32) (harg15 : arg15.IsWhole) (arg16 : Memref sig .tc .vmem S2x80x128 .f32) (harg16 : arg16.IsWhole) (hc0 : cond0_0 i) (hc1 : cond0_1 i) (hc2 : ¬cond0_2 i) (hc3 : ¬cond0_3 i)
    (x0 : Vec F S256x5120 .bf16) (x1 : Vec F S1x5120 .f32) (x2 : Vec F S2x128 .i32) (x3 : Vec F S80x1 .f32) (x4 : Vec F S5120x1280 .fp8e4m3) (x5 : Vec F S40x60 .f32) :
    Σ' (L6 : List (View.Piece (Elt F) S256x5120 .fp8e4m3)), { L7 : List (View.Piece (Elt F) S2x40x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
    refine ⟨?_, ?_, fun E K => ?_⟩
    pick_goal 3
    simp only [cc0_qkv_eq_skeleton]; unfold cc0_qkv_skel
    simp only [k0_part308_eq_skeleton, k0_part213_eq_skeleton, k0_part115_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part116_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part117_eq_skeleton, k0_part118_eq_skeleton, k0_part119_eq_skeleton, k0_part120_eq_skeleton, k0_part121_eq_skeleton, k0_part122_eq_skeleton, k0_part123_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.QkvIdeal.Gen

end
-- ==== Proof.QkvRunB.lean ====
module

public import proofs.«01_k».proof.Proof.QkvRunA

@[expose] public section

-- membership in a rectangle of production extents (`View.cover_of_tiled`): the elaborator's structural look
-- recurses once per coordinate of the long axes
set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 99252000 in
/-- The body's triple in case B (`scf.if` 0 not taken, `scf.if` 1 taken, `scf.if` 2 not taken, `scf.if` 3 not taken: points 1, 2, 3): on whole staging memrefs — the inputs' at their contents,
    the unnamed outputs' at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S256x5120 .bf16) (harg1 : arg1.IsWhole) (arg2 : Memref sig .tc .vmem S1x5120 .f32) (harg2 : arg2.IsWhole) (arg3 : Memref sig .tc .vmem S2x128 .i32) (harg3 : arg3.IsWhole) (arg4 : Memref sig .tc .vmem S80x1 .f32) (harg4 : arg4.IsWhole) (arg5 : Memref sig .tc .vmem S5120x1280 .fp8e4m3) (harg5 : arg5.IsWhole) (arg6 : Memref sig .tc .smem S40x60 .f32) (harg6 : arg6.IsWhole) (arg7 : Memref sig .tc .vmem S256x5120 .fp8e4m3) (harg7 : arg7.IsWhole) (arg8 : Memref sig .tc .vmem S2x40x128 .f32) (harg8 : arg8.IsWhole) (arg9 : Memref sig .tc .vmem S2x8x160x128 .bf16) (harg9 : arg9.IsWhole) (arg10 : Memref sig .tc .vmem S2x8x160x128 .fp8e4m3) (harg10 : arg10.IsWhole) (arg11 : Memref sig .tc .vmem S2x8x128 .f32) (harg11 : arg11.IsWhole) (arg12 : Memref sig .tc .vmem S2x8x160x128 .fp8e4m3) (harg12 : arg12.IsWhole) (arg13 : Memref sig .tc .vmem S2x8x128 .f32) (harg13 : arg13.IsWhole) (arg14 : Memref sig .tc .vmem S256x5120 .bf16) (harg14 : arg14.IsWhole) (arg15 : Memref sig .tc .vmem S2x80x128 .f32) (harg15 : arg15.IsWhole) (arg16 : Memref sig .tc .vmem S2x80x128 .f32) (harg16 : arg16.IsWhole) (hc0 : ¬cond0_0 i) (hc1 : cond0_1 i) (hc2 : ¬cond0_2 i) (hc3 : ¬cond0_3 i)
    (x0 : Vec F S256x5120 .bf16) (x1 : Vec F S1x5120 .f32) (x2 : Vec F S2x128 .i32) (x3 : Vec F S80x1 .f32) (x4 : Vec F S5120x1280 .fp8e4m3) (x5 : Vec F S40x60 .f32) (x6 : Vec F S256x5120 .fp8e4m3) (x7 : Vec F S2x40x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_qkv_eq_skeleton]; unfold cc0_qkv_skel
    simp only [k0_part308_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part117_eq_skeleton, k0_part118_eq_skeleton, k0_part119_eq_skeleton, k0_part120_eq_skeleton, k0_part121_eq_skeleton, k0_part122_eq_skeleton, k0_part123_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact hf6
      iexact H6
    isplitl [H7]
    · iexists _; isplitr; · ipureintro; exact hf7
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.QkvIdeal.Gen

end
-- ==== Proof.QkvRunC.lean ====
module

public import proofs.«01_k».proof.Proof.QkvRunB

@[expose] public section

-- membership in a rectangle of production extents (`View.cover_of_tiled`): the elaborator's structural look
-- recurses once per coordinate of the long axes
set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 99840000 in
/-- The body's triple in case C (`scf.if` 0 not taken, `scf.if` 1 not taken, `scf.if` 2 taken, `scf.if` 3 not taken: points 4): on whole staging memrefs — the inputs' at their contents,
    the unnamed outputs' at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_C (c : Dev nD) (i : grid0.Coords) (arg1 : Memref sig .tc .vmem S256x5120 .bf16) (harg1 : arg1.IsWhole) (arg2 : Memref sig .tc .vmem S1x5120 .f32) (harg2 : arg2.IsWhole) (arg3 : Memref sig .tc .vmem S2x128 .i32) (harg3 : arg3.IsWhole) (arg4 : Memref sig .tc .vmem S80x1 .f32) (harg4 : arg4.IsWhole) (arg5 : Memref sig .tc .vmem S5120x1280 .fp8e4m3) (harg5 : arg5.IsWhole) (arg6 : Memref sig .tc .smem S40x60 .f32) (harg6 : arg6.IsWhole) (arg7 : Memref sig .tc .vmem S256x5120 .fp8e4m3) (harg7 : arg7.IsWhole) (arg8 : Memref sig .tc .vmem S2x40x128 .f32) (harg8 : arg8.IsWhole) (arg9 : Memref sig .tc .vmem S2x8x160x128 .bf16) (harg9 : arg9.IsWhole) (arg10 : Memref sig .tc .vmem S2x8x160x128 .fp8e4m3) (harg10 : arg10.IsWhole) (arg11 : Memref sig .tc .vmem S2x8x128 .f32) (harg11 : arg11.IsWhole) (arg12 : Memref sig .tc .vmem S2x8x160x128 .fp8e4m3) (harg12 : arg12.IsWhole) (arg13 : Memref sig .tc .vmem S2x8x128 .f32) (harg13 : arg13.IsWhole) (arg14 : Memref sig .tc .vmem S256x5120 .bf16) (harg14 : arg14.IsWhole) (arg15 : Memref sig .tc .vmem S2x80x128 .f32) (harg15 : arg15.IsWhole) (arg16 : Memref sig .tc .vmem S2x80x128 .f32) (harg16 : arg16.IsWhole) (hc0 : ¬cond0_0 i) (hc1 : ¬cond0_1 i) (hc2 : cond0_2 i) (hc3 : ¬cond0_3 i)
    (x0 : Vec F S256x5120 .bf16) (x1 : Vec F S1x5120 .f32) (x2 : Vec F S2x128 .i32) (x3 : Vec F S80x1 .f32) (x4 : Vec F S5120x1280 .fp8e4m3) (x5 : Vec F S40x60 .f32) (x6 : Vec F S256x5120 .fp8e4m3) (x7 : Vec F S2x40x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_qkv_eq_skeleton]; unfold cc0_qkv_skel
    simp only [k0_part308_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part170_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact hf6
      iexact H6
    isplitl [H7]
    · iexists _; isplitr; · ipureintro; exact hf7
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.QkvIdeal.Gen

end
-- ==== Proof.QkvRunD.lean ====
module

public import proofs.«01_k».proof.Proof.QkvRunC

@[expose] public section

-- membership in a rectangle of production extents (`View.cover_of_tiled`): the elaborator's structural look
-- recurses once per coordinate of the long axes
set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 99660000 in
/-- The body's triple in case D (`scf.if` 0 not taken, `scf.if` 1 not taken, `scf.if` 2 not taken, `scf.if` 3 taken: points 5): on whole staging memrefs — the inputs' at their contents,
    the unnamed outputs' at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_D (c : Dev nD) (i : grid0.Coords) (arg1 : Memref sig .tc .vmem S256x5120 .bf16) (harg1 : arg1.IsWhole) (arg2 : Memref sig .tc .vmem S1x5120 .f32) (harg2 : arg2.IsWhole) (arg3 : Memref sig .tc .vmem S2x128 .i32) (harg3 : arg3.IsWhole) (arg4 : Memref sig .tc .vmem S80x1 .f32) (harg4 : arg4.IsWhole) (arg5 : Memref sig .tc .vmem S5120x1280 .fp8e4m3) (harg5 : arg5.IsWhole) (arg6 : Memref sig .tc .smem S40x60 .f32) (harg6 : arg6.IsWhole) (arg7 : Memref sig .tc .vmem S256x5120 .fp8e4m3) (harg7 : arg7.IsWhole) (arg8 : Memref sig .tc .vmem S2x40x128 .f32) (harg8 : arg8.IsWhole) (arg9 : Memref sig .tc .vmem S2x8x160x128 .bf16) (harg9 : arg9.IsWhole) (arg10 : Memref sig .tc .vmem S2x8x160x128 .fp8e4m3) (harg10 : arg10.IsWhole) (arg11 : Memref sig .tc .vmem S2x8x128 .f32) (harg11 : arg11.IsWhole) (arg12 : Memref sig .tc .vmem S2x8x160x128 .fp8e4m3) (harg12 : arg12.IsWhole) (arg13 : Memref sig .tc .vmem S2x8x128 .f32) (harg13 : arg13.IsWhole) (arg14 : Memref sig .tc .vmem S256x5120 .bf16) (harg14 : arg14.IsWhole) (arg15 : Memref sig .tc .vmem S2x80x128 .f32) (harg15 : arg15.IsWhole) (arg16 : Memref sig .tc .vmem S2x80x128 .f32) (harg16 : arg16.IsWhole) (hc0 : ¬cond0_0 i) (hc1 : ¬cond0_1 i) (hc2 : ¬cond0_2 i) (hc3 : cond0_3 i)
    (x0 : Vec F S256x5120 .bf16) (x1 : Vec F S1x5120 .f32) (x2 : Vec F S2x128 .i32) (x3 : Vec F S80x1 .f32) (x4 : Vec F S5120x1280 .fp8e4m3) (x5 : Vec F S40x60 .f32) (x6 : Vec F S256x5120 .fp8e4m3) (x7 : Vec F S2x40x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_qkv_eq_skeleton]; unfold cc0_qkv_skel
    simp only [k0_part308_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part212_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact hf6
      iexact H6
    isplitl [H7]
    · iexists _; isplitr; · ipureintro; exact hf7
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.QkvIdeal.Gen

end
-- ==== Proof.QkvFrame.lean ====
module

public import proofs.«01_k».proof.Proof.QkvRunD
public import Idealize.ShloMosaic.Lib.Pipeline.TableIdle
public import Idealize.ShloMosaic.Lib.Claim

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the first point leaves in the two arrays of the activation -/

/-- The first grid point, the one that quantises the activation. -/
abbrev first0 : Fin cfg0.N := ⟨0, by rw [show cfg0.N = 6 from N_0]; omega⟩

/-- The view the codes are read back through. -/
abbrev VO0_6 : View sig .tc .vmem S256x5120 .fp8e4m3 := (Memref.whole cc0_stg6_0 : Memref sig .tc .vmem S256x5120 .fp8e4m3).view
/-- The view the scales are read back through. -/
abbrev VO0_7 : View sig .tc .vmem S2x40x128 .f32 := (Memref.whole cc0_stg7_0 : Memref sig .tc .vmem S2x40x128 .f32).view

/-- The run of the body at the first point, at the blocks it finds there. -/
def runFirst (c : Dev nD) :=
  kernelRun0_A (F := F) c (grid0.coords first0) (ms0_0 first0) (hs0_0 first0) (ms0_1 first0) (hs0_1 first0) (ms0_2 first0) (hs0_2 first0) (ms0_3 first0) (hs0_3 first0) (ms0_4 first0) (hs0_4 first0) (ms0_5 first0) (hs0_5 first0) (ms0_6 first0) (hs0_6 first0) (ms0_7 first0) (hs0_7 first0) (ms0_8 first0) (hs0_8 first0) (ms0_9 first0) (hs0_9 first0) (ms0_10 first0) (hs0_10 first0) (ms0_11 first0) (hs0_11 first0) (ms0_12 first0) (hs0_12 first0) scM0_0 (Memref.isWhole_whole _) scM0_1 (Memref.isWhole_whole _) scM0_2 (Memref.isWhole_whole _)
    ((hcond0_0 first0).mpr rfl) ((hcond0_1 first0).mpr (by decide)) (fun h => absurd ((hcond0_2 first0).mp h) (by decide)) (fun h => absurd ((hcond0_3 first0).mp h) (by decide))
    (iblk m c 0 first0) (iblk m c 1 first0) (iblk m c 2 first0) (iblk m c 3 first0) (iblk m c 4 first0) (iblk m c 5 first0)

/-- The stores of codes at the first point fill the whole block. -/
theorem coverCodes (c : Dev nD) (y : S256x5120.Idx) : ∃ pc ∈ (runFirst m c).1, y ∈ pc.1.set :=
  View.cover_of_tiledL (runFirst m c).1 S256x128.size (by sl_kernel_rfl) y

/-- The two stores of scales at the first point fill the whole block. -/
theorem coverScales (c : Dev nD) (y : S2x40x128.Idx) : ∃ pc ∈ (runFirst m c).2.1, y ∈ pc.1.set :=
  View.cover_of_tiledL (runFirst m c).2.1 S1x40x128.size (by sl_kernel_rfl) y

/-- The codes the first point leaves: its stores read back. -/
def leftCodes (c : Dev nD) : Vec F S256x5120 .fp8e4m3 :=
  VO0_6.read (Elt F) (VO0_6.writes (Elt F) VO0_6.junk (runFirst m c).1)

/-- The scales the first point leaves: its stores read back. -/
def leftScales (c : Dev nD) : Vec F S2x40x128 .f32 :=
  VO0_7.read (Elt F) (VO0_7.writes (Elt F) VO0_7.junk (runFirst m c).2.1)

/-! ## The pipeline's proof data -/

/-- The output windows whose contents the frame does not name (8 to 12): nothing reads what the kernel leaves in them, so nothing
    of it is named (Lib/Pipeline/Dat.lean `Dat.toRForget`). -/
def forgets0 : Fin 13 → Bool := fun w => w.val == 8 || w.val == 9 || w.val == 10 || w.val == 11 || w.val == 12

/-- The proof data of the one pipeline on core `c`: the arrays as the region finds them (`V`); after the body at
    point `t` each input's buffer at its block and the outputs it does not name at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => leftCodes m c
    | ⟨7, _⟩ => leftScales m c
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- The body leaves input window 1 at its block. -/
theorem after0_1 (c : Dev nD) (t : Fin cfg0.N) : (dats m 0 c).after 1 t = iblk m c 1 t := by dsimp only [dats]
/-- The body leaves input window 2 at its block. -/
theorem after0_2 (c : Dev nD) (t : Fin cfg0.N) : (dats m 0 c).after 2 t = iblk m c 2 t := by dsimp only [dats]
/-- The body leaves input window 3 at its block. -/
theorem after0_3 (c : Dev nD) (t : Fin cfg0.N) : (dats m 0 c).after 3 t = iblk m c 3 t := by dsimp only [dats]
/-- The body leaves input window 4 at its block. -/
theorem after0_4 (c : Dev nD) (t : Fin cfg0.N) : (dats m 0 c).after 4 t = iblk m c 4 t := by dsimp only [dats]
/-- The body leaves input window 5 at its block. -/
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- The body finds input window 1 at its block. -/
theorem before0_1 (c : Dev nD) (t : Fin cfg0.N) (d) : (dats m 0 c).before 1 t d = iblk m c 1 t :=
  before0_1_of m (dats m 0 c) (A_eq m c 1) (after0_1 m c) t d
/-- The body finds input window 2 at its block. -/
theorem before0_2 (c : Dev nD) (t : Fin cfg0.N) (d) : (dats m 0 c).before 2 t d = iblk m c 2 t :=
  before0_2_of m (dats m 0 c) (A_eq m c 2) (after0_2 m c) t d
/-- The body finds input window 3 at its block. -/
theorem before0_3 (c : Dev nD) (t : Fin cfg0.N) (d) : (dats m 0 c).before 3 t d = iblk m c 3 t :=
  before0_3_of m (dats m 0 c) (A_eq m c 3) (after0_3 m c) t d
/-- The body finds input window 4 at its block. -/
theorem before0_4 (c : Dev nD) (t : Fin cfg0.N) (d) : (dats m 0 c).before 4 t d = iblk m c 4 t :=
  before0_4_of m (dats m 0 c) (A_eq m c 4) (after0_4 m c) t d
/-- The body finds input window 5 at its block. -/
theorem before0_5 (c : Dev nD) (t : Fin cfg0.N) (d) : (dats m 0 c).before 5 t d = iblk m c 5 t :=
  before0_5_of m (dats m 0 c) (A_eq m c 5) (after0_5 m c) t d

/-- The codes stay what the first point left. -/
theorem after0_6 (c : Dev nD) (t : Fin cfg0.N) : (dats m 0 c).after 6 t = leftCodes m c := by dsimp only [dats]

/-- After the first point the body finds the codes the first point left: no later point stores into that buffer and
    nothing is written back before the last point. -/
theorem before0_6 (c : Dev nD) (t : Fin cfg0.N) (ht : t.val ≠ 0) (d) : (dats m 0 c).before 6 t d = leftCodes m c := by
  have h := (dats m 0 c).before_out_traj 6 rfl (fun _ _ => rfl)
    (fun s _ _ _ => by rw [after0_6, after0_6]) t.val t rfl d
  have hf : ∀ s : Fin cfg0.N, s.val ≠ 0 → cfg0.fresh 6 s.val = false := by decide +kernel
  rw [h, if_neg (by rw [hf t ht]; exact Bool.false_ne_true), after0_6]

/-- Window 6 is idle after the first point. -/
theorem idleAt0_6 : ∀ t : Fin cfg0.N, t.val ≠ 0 → cfg0.idle 6 (grid0.coords t) = true := by decide +kernel

/-- Window 6 is stored at the first point. -/
theorem liveAt0_6 : cfg0.idle 6 (grid0.coords first0) = false := by decide +kernel

/-- The codes handed back unchanged after a later point are what the obligation asks for. -/
theorem leaves0_6 (c : Dev nD) (t : Fin cfg0.N) (ht : t.val ≠ 0) :
    (owns (c : Thread nD τ) (ms0_6 t) fullShare (leftCodes m c) : sProp 𝕄) ⊢ (dats m 0 c).leavesExact 6 t := by
  cases hf : (cfg0.win 6).flush t
  · rw [(dats m 0 c).leavesExact_idle 6 t (idleAt0_6 t ht) hf]
    iintro H
    iexists leftCodes m c
    rw [before0_6 m c t ht]
    iexact H
  · unfold Dat.leavesExact
    rw [idleAt0_6 t ht, hf]
    dsimp only
    rw [after0_6]

/-- The scales stay what the first point left. -/
theorem after0_7 (c : Dev nD) (t : Fin cfg0.N) : (dats m 0 c).after 7 t = leftScales m c := by dsimp only [dats]

/-- After the first point the body finds the scales the first point left: no later point stores into that buffer and
    nothing is written back before the last point. -/
theorem before0_7 (c : Dev nD) (t : Fin cfg0.N) (ht : t.val ≠ 0) (d) : (dats m 0 c).before 7 t d = leftScales m c := by
  have h := (dats m 0 c).before_out_traj 7 rfl (fun _ _ => rfl)
    (fun s _ _ _ => by rw [after0_7, after0_7]) t.val t rfl d
  have hf : ∀ s : Fin cfg0.N, s.val ≠ 0 → cfg0.fresh 7 s.val = false := by decide +kernel
  rw [h, if_neg (by rw [hf t ht]; exact Bool.false_ne_true), after0_7]

/-- Window 7 is idle after the first point. -/
theorem idleAt0_7 : ∀ t : Fin cfg0.N, t.val ≠ 0 → cfg0.idle 7 (grid0.coords t) = true := by decide +kernel

/-- Window 7 is stored at the first point. -/
theorem liveAt0_7 : cfg0.idle 7 (grid0.coords first0) = false := by decide +kernel

/-- The scales handed back unchanged after a later point are what the obligation asks for. -/
theorem leaves0_7 (c : Dev nD) (t : Fin cfg0.N) (ht : t.val ≠ 0) :
    (owns (c : Thread nD τ) (ms0_7 t) fullShare (leftScales m c) : sProp 𝕄) ⊢ (dats m 0 c).leavesExact 7 t := by
  cases hf : (cfg0.win 7).flush t
  · rw [(dats m 0 c).leavesExact_idle 7 t (idleAt0_7 t ht) hf]
    iintro H
    iexists leftScales m c
    rw [before0_7 m c t ht]
    iexact H
  · unfold Dat.leavesExact
    rw [idleAt0_7 t ht, hf]
    dsimp only
    rw [after0_7]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d))

/-- The codes after the first point: the point stores the block, so it holds what the stores left. -/
theorem leaves0_6_first (c : Dev nD) : (dats m 0 c).leavesExact 6 first0 = (owns (c : Thread nD τ) (ms0_6 first0) fullShare (leftCodes m c) : sProp 𝕄) := by
  unfold Dat.leavesExact; rw [liveAt0_6]; dsimp only; rw [after0_6]

/-- The scales after the first point. -/
theorem leaves0_7_first (c : Dev nD) : (dats m 0 c).leavesExact 7 first0 = (owns (c : Thread nD τ) (ms0_7 first0) fullShare (leftScales m c) : sProp 𝕄) := by
  unfold Dat.leavesExact; rw [liveAt0_7]; dsimp only; rw [after0_7]

set_option maxHeartbeats 6400000 in
/-- The body at the first point. -/
theorem soundBody_A (c : Dev nD) (t : Fin cfg0.N) (hz : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  obtain rfl : t = first0 := Fin.ext hz
  rw [leaves0_6_first, leaves0_7_first]
  unfold leftCodes leftScales
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runFirst m c).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [HS0]; · iexact HS0
  isplitl [HS1]; · iexact HS1
  isplitl [HS2]; · iexact HS2
  iintro ⟨H0, H1, H2, H3, H4, H5, ⟨%e6, H6⟩, ⟨%e7, H7⟩, H8, H9, H10, H11, H12, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (coverCodes m c)
  isplitl [H7]
  · unfold owns; iexists _; isplitr
    swap; · iexact H7
    ipureintro; exact View.read_writes_of_cover _ _ _ _ _ (coverScales m c)
  isplitl [H8]; · iexact H8
  isplitl [H9]; · iexact H9
  isplitl [H10]; · iexact H10
  isplitl [H11]; · iexact H11
  iexact H12

set_option maxHeartbeats 6400000 in
/-- The body at points 1 to 3. -/
theorem soundBody_B (c : Dev nD) (t : Fin cfg0.N) (hz : t.val ≠ 0) (h : t.val < 4) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  rw [before0_6 m c t hz, before0_7 m c t hz]
  iapply ((kernelRun0_B c (grid0.coords t) _ _ _ _ _ _ _ _ _ _ _ _ _ _ _ _ _ _ _ _ _ _ _ _ _ _ _ _ _ _ _ _ (fun h => hz (by have := (hcond0_0 t).mp h; omega)) ((hcond0_1 t).mpr (by omega)) (fun h => by have := (hcond0_2 t).mp h; omega) (fun h => by have := (hcond0_3 t).mp h; omega) (iblk m c 0 t) (iblk m c 1 t) (iblk m c 2 t) (iblk m c 3 t) (iblk m c 4 t) (iblk m c 5 t) (leftCodes m c) (leftScales m c)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [HS0]; · iexact HS0
  isplitl [HS1]; · iexact HS1
  isplitl [HS2]; · iexact HS2
  iintro ⟨H0, H1, H2, H3, H4, H5, H6, H7, H8, H9, H10, H11, H12, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (leaves0_6 m c t hz); iexact H6
  isplitl [H7]; · iapply (leaves0_7 m c t hz); iexact H7
  isplitl [H8]; · iexact H8
  isplitl [H9]; · iexact H9
  isplitl [H10]; · iexact H10
  isplitl [H11]; · iexact H11
  iexact H12

set_option maxHeartbeats 6400000 in
/-- The body at point 4. -/
theorem soundBody_C (c : Dev nD) (t : Fin cfg0.N) (hz : t.val ≠ 0) (h : t.val = 4) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  rw [before0_6 m c t hz, before0_7 m c t hz]
  iapply ((kernelRun0_C c (grid0.coords t) _ _ _ _ _ _ _ _ _ _ _ _ _ _ _ _ _ _ _ _ _ _ _ _ _ _ _ _ _ _ _ _ (fun h => hz (by have := (hcond0_0 t).mp h; omega)) (fun h => by have := (hcond0_1 t).mp h; omega) ((hcond0_2 t).mpr (by omega)) (fun h => by have := (hcond0_3 t).mp h; omega) (iblk m c 0 t) (iblk m c 1 t) (iblk m c 2 t) (iblk m c 3 t) (iblk m c 4 t) (iblk m c 5 t) (leftCodes m c) (leftScales m c)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [HS0]; · iexact HS0
  isplitl [HS1]; · iexact HS1
  isplitl [HS2]; · iexact HS2
  iintro ⟨H0, H1, H2, H3, H4, H5, H6, H7, H8, H9, H10, H11, H12, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (leaves0_6 m c t hz); iexact H6
  isplitl [H7]; · iapply (leaves0_7 m c t hz); iexact H7
  isplitl [H8]; · iexact H8
  isplitl [H9]; · iexact H9
  isplitl [H10]; · iexact H10
  isplitl [H11]; · iexact H11
  iexact H12

set_option maxHeartbeats 6400000 in
/-- The body at the last point. -/
theorem soundBody_D (c : Dev nD) (t : Fin cfg0.N) (hz : t.val ≠ 0) (h : t.val = 5) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  rw [before0_6 m c t hz, before0_7 m c t hz]
  iapply ((kernelRun0_D c (grid0.coords t) _ _ _ _ _ _ _ _ _ _ _ _ _ _ _ _ _ _ _ _ _ _ _ _ _ _ _ _ _ _ _ _ (fun h => hz (by have := (hcond0_0 t).mp h; omega)) (fun h => by have := (hcond0_1 t).mp h; omega) (fun h => by have := (hcond0_2 t).mp h; omega) ((hcond0_3 t).mpr (by omega)) (iblk m c 0 t) (iblk m c 1 t) (iblk m c 2 t) (iblk m c 3 t) (iblk m c 4 t) (iblk m c 5 t) (leftCodes m c) (leftScales m c)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [HS0]; · iexact HS0
  isplitl [HS1]; · iexact HS1
  isplitl [HS2]; · iexact HS2
  iintro ⟨H0, H1, H2, H3, H4, H5, H6, H7, H8, H9, H10, H11, H12, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (leaves0_6 m c t hz); iexact H6
  isplitl [H7]; · iapply (leaves0_7 m c t hz); iexact H7
  isplitl [H8]; · iexact H8
  isplitl [H9]; · iexact H9
  isplitl [H10]; · iexact H10
  isplitl [H11]; · iexact H11
  iexact H12

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 6 := lt_of_lt_of_eq t.isLt (show cfg0.N = 6 from N_0)
  by_cases hz : t.val = 0
  · exact soundBody_A m c t hz
  · by_cases h4 : t.val < 4
    · exact soundBody_B m c t hz h4
    · by_cases h5 : t.val = 4
      · exact soundBody_C m c t hz h5
      · exact soundBody_D m c t hz (by omega)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- The launch: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    unnamed outputs (windows 8 to 12) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of_post m ρ (fun c => (dats m 0 c).toRForget forgets0) (A_eq m) (run_main m ρ)

/-- The frame with the counters: the argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.QkvIdeal.Gen

end
-- ==== Proof.QkvGroup.lean ====
module
public import proofs.«01_k».proof.Proof.QkvFrame
public import Idealize.ShloMosaic.Lib.Pointwise
public import Idealize.ShloMosaic.Lib.Pipeline.ValueKit
public import Idealize.ShloMosaic.Lib.Pipeline.ReadBack
@[expose] public section
noncomputable section
namespace Cert.QkvIdeal.Norm
open Cert.QkvIdeal Cert.QkvIdeal.Gen Idealize.ShloMosaic Idealize.ShloMosaic.TcCoe Idealize.SL.Sem
open Idealize.ShloMosaic.Tactic
variable {F : FTy → Type} [FloatOps F]

/-- One over the root of the mean square of every row. -/
def rs (x0 : Vec F S256x5120 .bf16) : FVec F S256x1 .f32 :=
  k0_pay3 (View.ld x0 (Rect.unit (s := S256x5120) ![0, 0] ![256, 5120] inb_S256x5120_S256x5120_0_0))

/-- One group of 128 columns of the normalised activation. -/
def gx (r : FVec F S256x1 .f32) (xb : Vec F S256x128 .bf16) (nb : Vec F S1x128 .f32) : FVec F S256x128 .f32 :=
  mulf (mulf (extf .f32 xb bitsLt_bf16_f32) (broadcastTo S256x128 r broadcasts_S256x1_S256x128))
    (broadcastTo S256x128 (shapeCast S1x128 nb shapeCasts_S1x128_S1x128) broadcasts_S1x128_S256x128)

/-- The greatest magnitude of a row of the group over 448, capped, in every lane. -/
def gy (x : FVec F S256x128 .f32) : FVec F S256x128 .f32 :=
  minimumf (mulf (broadcastTo S256x128 (shapeCast S256x1 (shapeCast S256x1 (multiReduction .maximumf [1] S256 (absf x) 0xFF800000#32 reduces_S256x128_S256 (.inl rfl) rfl) shapeCasts_S256_S256x1) shapeCasts_S256x1_S256x1) broadcasts_S256x1_S256x128)
    (broadcast S256x128 (Scalar.ofBits .f32 0x3B124925#32))) (broadcast S256x128 (Scalar.ofBits .f32 0x7B800000#32))

/-- One step of the search for the exponent field: add `b` if the power of two of that field is still at most `y`. -/
def gstep (y : FVec F S256x128 .f32) (b : BitVec 32) (f : IVec S256x128 32) : IVec S256x128 32 :=
  select (cmpf .oge y (bitcastToFloat .f32 (shli (addi f (broadcast S256x128 b)) (broadcast S256x128 23#32)))) (addi f (broadcast S256x128 b)) f

/-- The exponent field of `y`, by eight steps. -/
def gfield (y : FVec F S256x128 .f32) : IVec S256x128 32 :=
  gstep y 1#32 (gstep y 2#32 (gstep y 4#32 (gstep y 8#32 (gstep y 16#32 (gstep y 32#32 (gstep y 64#32 (gstep y 128#32 (broadcast S256x128 0#32))))))))

/-- The exponent of the scale. -/
def gexp (f : IVec S256x128 32) : IVec S256x128 32 :=
  select (cmpi .eq f (broadcast S256x128 0#32)) (broadcast S256x128 0#32) (subi f (broadcast S256x128 126#32))

/-- The scale of that exponent. -/
def gscale (e : IVec S256x128 32) : FVec F S256x128 .f32 :=
  bitcastToFloat .f32 (shli (addi e (broadcast S256x128 127#32)) (broadcast S256x128 23#32))

/-- One over that scale. -/
def ginv (e : IVec S256x128 32) : FVec F S256x128 .f32 :=
  bitcastToFloat .f32 (shli (subi (broadcast S256x128 127#32) e) (broadcast S256x128 23#32))

/-- The codes of a group from its exponents. -/
def gcodes (x : FVec F S256x128 .f32) (e : IVec S256x128 32) : FVec F S256x128 .fp8e4m3 :=
  truncf .fp8e4m3 (minimumf (broadcast S256x128 (Scalar.ofBits .f32 0x43E00000#32)) (maximumf (broadcast S256x128 (Scalar.ofBits .f32 0xC3E00000#32)) (mulf x (ginv e)))) bitsLt_fp8e4m3_f32

/-- The exponents of a group of columns. -/
def gE (x : FVec F S256x128 .f32) : IVec S256x128 32 := gexp (gfield (gy x))

/-- Group `k` of the columns lies inside the activation. -/
theorem inX (k : Fin 40) : ∀ a, ![0, k.val * 128] a + S256x128.size a ≤ S256x5120.size a := fun a => by
  have hk := k.isLt
  match a with
  | 0 => exact Nat.le_refl 256
  | 1 => show k.val * 128 + 128 ≤ 5120; omega

/-- Group `k` of the columns lies inside the norm's weights. -/
theorem inN (k : Fin 40) : ∀ a, ![0, k.val * 128] a + S1x128.size a ≤ S1x5120.size a := fun a => by
  have hk := k.isLt
  match a with
  | 0 => exact Nat.le_refl 1
  | 1 => show k.val * 128 + 128 ≤ 5120; omega

/-- The columns of group `k` of the activation. -/
def colX (x0 : Vec F S256x5120 .bf16) (k : Fin 40) : Vec F S256x128 .bf16 :=
  View.ld x0 (Rect.unit (s := S256x5120) ![0, k.val * 128] ![256, 128] (inX k))

/-- The columns of group `k` of the norm's weights. -/
def colN (x1 : Vec F S1x5120 .f32) (k : Fin 40) : Vec F S1x128 .f32 :=
  View.ld x1 (Rect.unit (s := S1x5120) ![0, k.val * 128] ![1, 128] (inN k))

/-- Group `k` of the normalised activation. -/
def xg (x0 : Vec F S256x5120 .bf16) (x1 : Vec F S1x5120 .f32) (k : Fin 40) : FVec F S256x128 .f32 :=
  gx (rs x0) (colX x0 k) (colN x1 k)

/-- The codes of the whole activation. -/
def XC (x0 : Vec F S256x5120 .bf16) (x1 : Vec F S1x5120 .f32) : Vec F S256x5120 .fp8e4m3 := fun y =>
  have h1 : (y 1).val < 5120 := (y 1).isLt
  gcodes (xg x0 x1 ⟨(y 1).val / 128, by omega⟩) (gE (xg x0 x1 ⟨(y 1).val / 128, by omega⟩)) (ix2 (y 0) ⟨(y 1).val % 128, Nat.mod_lt _ (by omega)⟩)

/-- The codes of group `k` are a slice of `XC`. -/
theorem piece_eq (x0 : Vec F S256x5120 .bf16) (x1 : Vec F S1x5120 .f32) (k c : ℕ) (hk : k * 128 = c) (hin : ∀ a, ![0, c] a + S256x128.size a ≤ S256x5120.size a)
    (hinN : ∀ a, ![0, c] a + S1x128.size a ≤ S1x5120.size a) :
    gcodes (gx (rs x0) (View.ld x0 (Rect.unit (s := S256x5120) ![0, c] ![256, 128] hin)) (View.ld x1 (Rect.unit (s := S1x5120) ![0, c] ![1, 128] hinN)))
      (gE (gx (rs x0) (View.ld x0 (Rect.unit (s := S256x5120) ![0, c] ![256, 128] hin)) (View.ld x1 (Rect.unit (s := S1x5120) ![0, c] ![1, 128] hinN))))
    = View.ld (XC x0 x1) (Rect.unit (s := S256x5120) ![0, c] ![256, 128] hin) := by
  subst hk
  have hc : k * 128 + 128 ≤ 5120 := hin 1
  funext y
  have hy0 : (y 0).val < 256 := (y 0).isLt
  have hy1 : (y 1).val < 128 := (y 1).isLt
  have e : View.ld (XC x0 x1) (Rect.unit (s := S256x5120) ![0, k * 128] ![256, 128] hin) y = XC x0 x1 (ix2 (⟨(y 0).val, hy0⟩ : Fin 256) (⟨k * 128 + (y 1).val, by omega⟩ : Fin 5120)) := by
    pointwise
  rw [e]
  unfold XC
  dsimp only
  have hq : (k * 128 + (y 1).val) / 128 = k := by omega
  have hr : (k * 128 + (y 1).val) % 128 = (y 1).val := by omega
  have hk4 : k < 40 := by omega
  have ek : (⟨(k * 128 + (y 1).val) / 128, by omega⟩ : Fin 40) = ⟨k, hk4⟩ := Fin.ext hq
  have ey : (ix2 (⟨(y 0).val, hy0⟩ : Fin 256) (⟨(k * 128 + (y 1).val) % 128, Nat.mod_lt _ (by omega)⟩ : Fin 128) : S256x128.Idx) = y := by
    funext a
    match a with
    | 0 => rfl
    | 1 => exact Fin.ext hr
  show _ = gcodes (xg x0 x1 ⟨(k * 128 + (y 1).val) / 128, _⟩) (gE (xg x0 x1 ⟨(k * 128 + (y 1).val) / 128, _⟩)) (ix2 (⟨(y 0).val, hy0⟩ : Fin 256) ⟨(k * 128 + (y 1).val) % 128, _⟩)
  rw [ek, ey]
  rfl

/-- The array of scales the kernel gathers: lane `g` of a row holds the row's scale of group `g`, group after group. -/
def accum (S : Fin 40 → FVec F S256x128 .f32) (n : ℕ) : FVec F S256x128 .f32 :=
  Nat.rec k0_pay4 (fun n acc => select (cmpi .eq (iota .tc S256x128 32 [1] iota_S256x128_d1_w32) (broadcast S256x128 (BitVec.ofNat 32 n))) (S ⟨n % 40, Nat.mod_lt _ (by omega)⟩) acc) n

/-- Lane `g` of the gathered array is the scale of group `g`. -/
theorem accum_apply (S : Fin 40 → FVec F S256x128 .f32) (a : Fin 256) (g : Fin 40) (n : ℕ) (hn : n ≤ 40) (hg : g.val < n) :
    accum S n (ix2 a ⟨g.val, by omega⟩) = S g (ix2 a ⟨g.val, by omega⟩) := by
  induction n with
  | zero => omega
  | succ n ih =>
    show select (cmpi .eq (iota .tc S256x128 32 [1] iota_S256x128_d1_w32) (broadcast S256x128 (BitVec.ofNat 32 n))) (S ⟨n % 40, Nat.mod_lt _ (by omega)⟩) (accum S n) (ix2 a ⟨g.val, by omega⟩) = _
    pointwise
    by_cases h : g.val = n
    · subst h
      have e : (⟨g.val % 40, Nat.mod_lt _ (by omega)⟩ : Fin 40) = g := Fin.ext (Nat.mod_eq_of_lt g.isLt)
      rw [e]
      simp [IntOp.cmpi, Scalar.select]
    · have hne : (BitVec.ofNat 32 g.val == BitVec.ofNat 32 n) = false := by
        rw [beq_eq_false_iff_ne]
        intro hc
        have := congrArg BitVec.toNat hc
        simp only [BitVec.toNat_ofNat] at this
        omega
      have hi := ih (by omega) (by omega)
      simp [IntOp.cmpi, Scalar.select, hne, hi]

/-- Batch 0 of the scales: its 128 rows, turned so that the groups come first. -/
def batch0 (acc : FVec F S256x128 .f32) : FVec F S1x40x128 .f32 :=
  shapeCast S1x40x128 (extractStridedSlice S40x128 ![0, 0] (transpose S128x128 [1, 0] (extractStridedSlice S128x128 ![0, 0] acc slices_S256x128_o0_0_S128x128) transposes_S128x128_p1_0_S128x128) slices_S128x128_o0_0_S40x128) shapeCasts_S40x128_S1x40x128

/-- Batch 0, read. -/
theorem batch0_apply (acc : FVec F S256x128 .f32) (z : Fin 1) (g : Fin 40) (s : Fin 128) :
    batch0 acc (ix3 z g s) = acc (ix2 ⟨s.val, by omega⟩ ⟨g.val, by omega⟩) := by
  unfold batch0
  pointwise

/-- Batch 1, read. -/
theorem batch1_apply (acc : FVec F S256x128 .f32) (z : Fin 1) (g : Fin 40) (s : Fin 128) :
    k0_pay842 acc (ix3 z g s) = acc (ix2 ⟨128 + s.val, by omega⟩ ⟨g.val, by omega⟩) := by
  unfold k0_pay842
  pointwise

/-- The scales of every group. -/
def SC (x0 : Vec F S256x5120 .bf16) (x1 : Vec F S1x5120 .f32) (k : Fin 40) : FVec F S256x128 .f32 := gscale (gE (xg x0 x1 k))

/-- The scales of the whole activation. -/
def XS (x0 : Vec F S256x5120 .bf16) (x1 : Vec F S1x5120 .f32) : Vec F S2x40x128 .f32 := fun z =>
  have h0 : (z 0).val < 2 := (z 0).isLt
  have h1 : (z 1).val < 40 := (z 1).isLt
  have h2 : (z 2).val < 128 := (z 2).isLt
  SC x0 x1 ⟨(z 1).val, h1⟩ (ix2 ⟨(z 0).val * 128 + (z 2).val, by omega⟩ ⟨(z 1).val, by omega⟩)

/-- Batch 0 of the gathered scales is a slice of `XS`. -/
theorem scales0 (x0 : Vec F S256x5120 .bf16) (x1 : Vec F S1x5120 .f32) :
    batch0 (accum (SC x0 x1) 40) = View.ld (XS x0 x1) (Rect.unit (s := S2x40x128) ![0, 0, 0] ![1, 40, 128] inb_S2x40x128_S1x40x128_0_0_0) := by
  funext y
  have hy0 : (y 0).val < 1 := (y 0).isLt
  have hy1 : (y 1).val < 40 := (y 1).isLt
  have hy2 : (y 2).val < 128 := (y 2).isLt
  have ey : y = ix3 (⟨(y 0).val, hy0⟩ : Fin 1) (⟨(y 1).val, hy1⟩ : Fin 40) (⟨(y 2).val, hy2⟩ : Fin 128) := by
    funext a
    match a with
    | 0 => rfl
    | 1 => rfl
    | 2 => rfl
  rw [ey, batch0_apply, accum_apply (SC x0 x1) _ ⟨(y 1).val, hy1⟩ 40 (le_refl _) hy1]
  unfold XS
  pointwise

/-- Batch 1 of the gathered scales is a slice of `XS`. -/
theorem scales1 (x0 : Vec F S256x5120 .bf16) (x1 : Vec F S1x5120 .f32) :
    k0_pay842 (accum (SC x0 x1) 40) = View.ld (XS x0 x1) (Rect.unit (s := S2x40x128) ![1, 0, 0] ![1, 40, 128] inb_S2x40x128_S1x40x128_1_0_0) := by
  funext y
  have hy0 : (y 0).val < 1 := (y 0).isLt
  have hy1 : (y 1).val < 40 := (y 1).isLt
  have hy2 : (y 2).val < 128 := (y 2).isLt
  have ey : y = ix3 (⟨(y 0).val, hy0⟩ : Fin 1) (⟨(y 1).val, hy1⟩ : Fin 40) (⟨(y 2).val, hy2⟩ : Fin 128) := by
    funext a
    match a with
    | 0 => rfl
    | 1 => rfl
    | 2 => rfl
  rw [ey, batch1_apply, accum_apply (SC x0 x1) _ ⟨(y 1).val, hy1⟩ 40 (le_refl _) hy1]
  unfold XS
  pointwise
end Cert.QkvIdeal.Norm
end
-- ==== Proof.QkvPieces.lean ====
module
public import proofs.«01_k».proof.Proof.QkvGroup
@[expose] public section
noncomputable section
namespace Cert.QkvIdeal.Norm
open Cert.QkvIdeal Cert.QkvIdeal.Gen Idealize.ShloMosaic Idealize.ShloMosaic.TcCoe Idealize.SL.Sem
open Idealize.ShloMosaic.Tactic
variable {F : FTy → Type} [FloatOps F]

set_option maxHeartbeats 4000000 in
/-- Each of the forty stores of codes at the first point stores a slice of `XC`. -/
theorem pieces_codes (c : Dev nD) (i : grid0.Coords) (arg1 : Memref sig .tc .vmem S256x5120 .bf16) (harg1 : arg1.IsWhole) (arg2 : Memref sig .tc .vmem S1x5120 .f32) (harg2 : arg2.IsWhole) (arg3 : Memref sig .tc .vmem S2x128 .i32) (harg3 : arg3.IsWhole) (arg4 : Memref sig .tc .vmem S80x1 .f32) (harg4 : arg4.IsWhole) (arg5 : Memref sig .tc .vmem S5120x1280 .fp8e4m3) (harg5 : arg5.IsWhole) (arg6 : Memref sig .tc .smem S40x60 .f32) (harg6 : arg6.IsWhole) (arg7 : Memref sig .tc .vmem S256x5120 .fp8e4m3) (harg7 : arg7.IsWhole) (arg8 : Memref sig .tc .vmem S2x40x128 .f32) (harg8 : arg8.IsWhole) (arg9 : Memref sig .tc .vmem S2x8x160x128 .bf16) (harg9 : arg9.IsWhole) (arg10 : Memref sig .tc .vmem S2x8x160x128 .fp8e4m3) (harg10 : arg10.IsWhole) (arg11 : Memref sig .tc .vmem S2x8x128 .f32) (harg11 : arg11.IsWhole) (arg12 : Memref sig .tc .vmem S2x8x160x128 .fp8e4m3) (harg12 : arg12.IsWhole) (arg13 : Memref sig .tc .vmem S2x8x128 .f32) (harg13 : arg13.IsWhole) (arg14 : Memref sig .tc .vmem S256x5120 .bf16) (harg14 : arg14.IsWhole) (arg15 : Memref sig .tc .vmem S2x80x128 .f32) (harg15 : arg15.IsWhole) (arg16 : Memref sig .tc .vmem S2x80x128 .f32) (harg16 : arg16.IsWhole) (hc0 : cond0_0 i) (hc1 : cond0_1 i) (hc2 : ¬cond0_2 i) (hc3 : ¬cond0_3 i)
    (x0 : Vec F S256x5120 .bf16) (x1 : Vec F S1x5120 .f32) (x2 : Vec F S2x128 .i32) (x3 : Vec F S80x1 .f32) (x4 : Vec F S5120x1280 .fp8e4m3) (x5 : Vec F S40x60 .f32) :
    View.PiecesOf (XC x0 x1) (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5).1 := by
  frame_open
  simp only [View.readAt_eq_ld, Memref.IsWhole.read_unread]
  refine ⟨congrFun (piece_eq x0 x1 39 4992 rfl inb_S256x5120_S256x128_0_4992 inb_S1x5120_S1x128_0_4992), ?_⟩
  refine ⟨congrFun (piece_eq x0 x1 38 4864 rfl inb_S256x5120_S256x128_0_4864 inb_S1x5120_S1x128_0_4864), ?_⟩
  refine ⟨congrFun (piece_eq x0 x1 37 4736 rfl inb_S256x5120_S256x128_0_4736 inb_S1x5120_S1x128_0_4736), ?_⟩
  refine ⟨congrFun (piece_eq x0 x1 36 4608 rfl inb_S256x5120_S256x128_0_4608 inb_S1x5120_S1x128_0_4608), ?_⟩
  refine ⟨congrFun (piece_eq x0 x1 35 4480 rfl inb_S256x5120_S256x128_0_4480 inb_S1x5120_S1x128_0_4480), ?_⟩
  refine ⟨congrFun (piece_eq x0 x1 34 4352 rfl inb_S256x5120_S256x128_0_4352 inb_S1x5120_S1x128_0_4352), ?_⟩
  refine ⟨congrFun (piece_eq x0 x1 33 4224 rfl inb_S256x5120_S256x128_0_4224 inb_S1x5120_S1x128_0_4224), ?_⟩
  refine ⟨congrFun (piece_eq x0 x1 32 4096 rfl inb_S256x5120_S256x128_0_4096 inb_S1x5120_S1x128_0_4096), ?_⟩
  refine ⟨congrFun (piece_eq x0 x1 31 3968 rfl inb_S256x5120_S256x128_0_3968 inb_S1x5120_S1x128_0_3968), ?_⟩
  refine ⟨congrFun (piece_eq x0 x1 30 3840 rfl inb_S256x5120_S256x128_0_3840 inb_S1x5120_S1x128_0_3840), ?_⟩
  refine ⟨congrFun (piece_eq x0 x1 29 3712 rfl inb_S256x5120_S256x128_0_3712 inb_S1x5120_S1x128_0_3712), ?_⟩
  refine ⟨congrFun (piece_eq x0 x1 28 3584 rfl inb_S256x5120_S256x128_0_3584 inb_S1x5120_S1x128_0_3584), ?_⟩
  refine ⟨congrFun (piece_eq x0 x1 27 3456 rfl inb_S256x5120_S256x128_0_3456 inb_S1x5120_S1x128_0_3456), ?_⟩
  refine ⟨congrFun (piece_eq x0 x1 26 3328 rfl inb_S256x5120_S256x128_0_3328 inb_S1x5120_S1x128_0_3328), ?_⟩
  refine ⟨congrFun (piece_eq x0 x1 25 3200 rfl inb_S256x5120_S256x128_0_3200 inb_S1x5120_S1x128_0_3200), ?_⟩
  refine ⟨congrFun (piece_eq x0 x1 24 3072 rfl inb_S256x5120_S256x128_0_3072 inb_S1x5120_S1x128_0_3072), ?_⟩
  refine ⟨congrFun (piece_eq x0 x1 23 2944 rfl inb_S256x5120_S256x128_0_2944 inb_S1x5120_S1x128_0_2944), ?_⟩
  refine ⟨congrFun (piece_eq x0 x1 22 2816 rfl inb_S256x5120_S256x128_0_2816 inb_S1x5120_S1x128_0_2816), ?_⟩
  refine ⟨congrFun (piece_eq x0 x1 21 2688 rfl inb_S256x5120_S256x128_0_2688 inb_S1x5120_S1x128_0_2688), ?_⟩
  refine ⟨congrFun (piece_eq x0 x1 20 2560 rfl inb_S256x5120_S256x128_0_2560 inb_S1x5120_S1x128_0_2560), ?_⟩
  refine ⟨congrFun (piece_eq x0 x1 19 2432 rfl inb_S256x5120_S256x128_0_2432 inb_S1x5120_S1x128_0_2432), ?_⟩
  refine ⟨congrFun (piece_eq x0 x1 18 2304 rfl inb_S256x5120_S256x128_0_2304 inb_S1x5120_S1x128_0_2304), ?_⟩
  refine ⟨congrFun (piece_eq x0 x1 17 2176 rfl inb_S256x5120_S256x128_0_2176 inb_S1x5120_S1x128_0_2176), ?_⟩
  refine ⟨congrFun (piece_eq x0 x1 16 2048 rfl inb_S256x5120_S256x128_0_2048 inb_S1x5120_S1x128_0_2048), ?_⟩
  refine ⟨congrFun (piece_eq x0 x1 15 1920 rfl inb_S256x5120_S256x128_0_1920 inb_S1x5120_S1x128_0_1920), ?_⟩
  refine ⟨congrFun (piece_eq x0 x1 14 1792 rfl inb_S256x5120_S256x128_0_1792 inb_S1x5120_S1x128_0_1792), ?_⟩
  refine ⟨congrFun (piece_eq x0 x1 13 1664 rfl inb_S256x5120_S256x128_0_1664 inb_S1x5120_S1x128_0_1664), ?_⟩
  refine ⟨congrFun (piece_eq x0 x1 12 1536 rfl inb_S256x5120_S256x128_0_1536 inb_S1x5120_S1x128_0_1536), ?_⟩
  refine ⟨congrFun (piece_eq x0 x1 11 1408 rfl inb_S256x5120_S256x128_0_1408 inb_S1x5120_S1x128_0_1408), ?_⟩
  refine ⟨congrFun (piece_eq x0 x1 10 1280 rfl inb_S256x5120_S256x128_0_1280 inb_S1x5120_S1x128_0_1280), ?_⟩
  refine ⟨congrFun (piece_eq x0 x1 9 1152 rfl inb_S256x5120_S256x128_0_1152 inb_S1x5120_S1x128_0_1152), ?_⟩
  refine ⟨congrFun (piece_eq x0 x1 8 1024 rfl inb_S256x5120_S256x128_0_1024 inb_S1x5120_S1x128_0_1024), ?_⟩
  refine ⟨congrFun (piece_eq x0 x1 7 896 rfl inb_S256x5120_S256x128_0_896 inb_S1x5120_S1x128_0_896), ?_⟩
  refine ⟨congrFun (piece_eq x0 x1 6 768 rfl inb_S256x5120_S256x128_0_768 inb_S1x5120_S1x128_0_768), ?_⟩
  refine ⟨congrFun (piece_eq x0 x1 5 640 rfl inb_S256x5120_S256x128_0_640 inb_S1x5120_S1x128_0_640), ?_⟩
  refine ⟨congrFun (piece_eq x0 x1 4 512 rfl inb_S256x5120_S256x128_0_512 inb_S1x5120_S1x128_0_512), ?_⟩
  refine ⟨congrFun (piece_eq x0 x1 3 384 rfl inb_S256x5120_S256x128_0_384 inb_S1x5120_S1x128_0_384), ?_⟩
  refine ⟨congrFun (piece_eq x0 x1 2 256 rfl inb_S256x5120_S256x128_0_256 inb_S1x5120_S1x128_0_256), ?_⟩
  refine ⟨congrFun (piece_eq x0 x1 1 128 rfl inb_S256x5120_S256x128_0_128 inb_S1x5120_S1x128_0_128), ?_⟩
  refine ⟨congrFun (piece_eq x0 x1 0 0 rfl inb_S256x5120_S256x128_0_0 inb_S1x5120_S1x128_0_0), ?_⟩
  trivial

set_option maxHeartbeats 4000000 in
/-- Each of the two stores of scales at the first point stores a slice of `XS`. -/
theorem pieces_scales (c : Dev nD) (i : grid0.Coords) (arg1 : Memref sig .tc .vmem S256x5120 .bf16) (harg1 : arg1.IsWhole) (arg2 : Memref sig .tc .vmem S1x5120 .f32) (harg2 : arg2.IsWhole) (arg3 : Memref sig .tc .vmem S2x128 .i32) (harg3 : arg3.IsWhole) (arg4 : Memref sig .tc .vmem S80x1 .f32) (harg4 : arg4.IsWhole) (arg5 : Memref sig .tc .vmem S5120x1280 .fp8e4m3) (harg5 : arg5.IsWhole) (arg6 : Memref sig .tc .smem S40x60 .f32) (harg6 : arg6.IsWhole) (arg7 : Memref sig .tc .vmem S256x5120 .fp8e4m3) (harg7 : arg7.IsWhole) (arg8 : Memref sig .tc .vmem S2x40x128 .f32) (harg8 : arg8.IsWhole) (arg9 : Memref sig .tc .vmem S2x8x160x128 .bf16) (harg9 : arg9.IsWhole) (arg10 : Memref sig .tc .vmem S2x8x160x128 .fp8e4m3) (harg10 : arg10.IsWhole) (arg11 : Memref sig .tc .vmem S2x8x128 .f32) (harg11 : arg11.IsWhole) (arg12 : Memref sig .tc .vmem S2x8x160x128 .fp8e4m3) (harg12 : arg12.IsWhole) (arg13 : Memref sig .tc .vmem S2x8x128 .f32) (harg13 : arg13.IsWhole) (arg14 : Memref sig .tc .vmem S256x5120 .bf16) (harg14 : arg14.IsWhole) (arg15 : Memref sig .tc .vmem S2x80x128 .f32) (harg15 : arg15.IsWhole) (arg16 : Memref sig .tc .vmem S2x80x128 .f32) (harg16 : arg16.IsWhole) (hc0 : cond0_0 i) (hc1 : cond0_1 i) (hc2 : ¬cond0_2 i) (hc3 : ¬cond0_3 i)
    (x0 : Vec F S256x5120 .bf16) (x1 : Vec F S1x5120 .f32) (x2 : Vec F S2x128 .i32) (x3 : Vec F S80x1 .f32) (x4 : Vec F S5120x1280 .fp8e4m3) (x5 : Vec F S40x60 .f32) :
    View.PiecesOf (XS x0 x1) (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 x5).2.1 := by
  frame_open
  simp only [View.readAt_eq_ld, Memref.IsWhole.read_unread]
  refine ⟨congrFun (scales1 x0 x1), ?_⟩
  refine ⟨congrFun (scales0 x0 x1), ?_⟩
  trivial

/-- The codes the first point leaves. -/
theorem leftCodes_eq (m : (ℓ : Loc nD τ sig) → Buf (Elt F) ℓ) (c : Dev nD) : leftCodes m c = XC (iblk m c 0 first0) (iblk m c 1 first0) := by
  unfold leftCodes
  rw [View.read_writes_junk_eq_canon]
  exact funext fun y => View.canon_apply_of_pieces _ _ (pieces_codes c _ _ _ _ _ _ _ _ _ _ _ _ _ _ _ _ _ _ _ _ _ _ _ _ _ _ _ _ _ _ _ _ _ _ _ _ _ (iblk m c 0 first0) (iblk m c 1 first0) _ _ _ _).mem y (coverCodes m c y)

/-- The scales the first point leaves. -/
theorem leftScales_eq (m : (ℓ : Loc nD τ sig) → Buf (Elt F) ℓ) (c : Dev nD) : leftScales m c = XS (iblk m c 0 first0) (iblk m c 1 first0) := by
  unfold leftScales
  rw [View.read_writes_junk_eq_canon]
  exact funext fun y => View.canon_apply_of_pieces _ _ (pieces_scales c _ _ _ _ _ _ _ _ _ _ _ _ _ _ _ _ _ _ _ _ _ _ _ _ _ _ _ _ _ _ _ _ _ _ _ _ _ (iblk m c 0 first0) (iblk m c 1 first0) _ _ _ _).mem y (coverScales m c y)
end Cert.QkvIdeal.Norm
end
-- ==== Proof.PowerSearch.lean ====
module
public import Idealize.ShloMosaic.Lib.Pointwise
public import Idealize.ShloMosaic.PureOps.Ideal.Laws
@[expose] public section
noncomputable section
namespace Cert.Quantise
open Idealize.ShloMosaic

/-- The number whose single-precision pattern has exponent field `k` and nothing else. -/
def power (k : ℕ) : EReal := Ideal.ofBits .f32 (BitVec.ofNat 32 k <<< 23)

/-- Two to the 23rd times two to `z - 23` is two to `z`. -/
theorem mul_zpow_sub (z : ℤ) : (8388608 : ℝ) * 2 ^ (z - 23) = 2 ^ z := by
  rw [zpow_sub₀ (by norm_num)]
  norm_num
  ring

/-- The number whose biased exponent is `k` and whose mantissa is zero: zero at 0, infinity at 255, a power of two in between. -/
theorem power_eq_ite (k : ℕ) (h : k ≤ 255) :
    power k = if k = 255 then ⊤ else if k = 0 then 0 else (((2 : ℝ) ^ ((k : ℤ) - 127) : ℝ) : EReal) := by
  have e : (BitVec.ofNat 32 k <<< 23).toNat = k * 2 ^ 23 := by
    rw [BitVec.toNat_shiftLeft, BitVec.toNat_ofNat, Nat.shiftLeft_eq]; omega
  have e1 : ((BitVec.ofNat 32 k <<< 23).extractLsb' 23 8).toNat = k := by
    rw [BitVec.extractLsb'_toNat, e, Nat.shiftRight_eq_div_pow]; omega
  have e2 : ((BitVec.ofNat 32 k <<< 23).extractLsb' 0 23).toNat = 0 := by
    rw [BitVec.extractLsb'_toNat, e, Nat.shiftRight_eq_div_pow]; omega
  have e3 : ((BitVec.ofNat 32 k <<< 23).extractLsb' (8 + 23) 1 == 1#1) = false := by
    rw [beq_eq_false_iff_ne]
    intro hh
    have := congrArg BitVec.toNat hh
    rw [BitVec.extractLsb'_toNat, e, Nat.shiftRight_eq_div_pow] at this
    simp at this
    omega
  have hp : power k = Ideal.ieee 8 23 (BitVec.ofNat 32 k <<< 23) := rfl
  rw [hp]
  generalize BitVec.ofNat 32 k <<< 23 = b at e1 e2 e3
  unfold Ideal.ieee
  simp only [e1, e2, e3]
  norm_num [-EReal.coe_mul]
  simp only [mul_zpow_sub]

/-- With a field from 1 to 254 it is the power of two `2 ^ (k - 127)`. -/
theorem power_eq (k : ℕ) (h1 : 1 ≤ k) (h2 : k ≤ 254) : power k = (((2 : ℝ) ^ ((k : ℤ) - 127) : ℝ) : EReal) := by
  rw [power_eq_ite k (by omega), if_neg (by omega), if_neg (by omega)]

/-- The powers grow with the field. -/
theorem power_lt (j k : ℕ) (h : j < k) (hk : k ≤ 255) : power j < power k := by
  rw [power_eq_ite j (by omega), power_eq_ite k hk]
  rw [if_neg (show ¬ j = 255 by omega), if_neg (show ¬ k = 0 by omega)]
  split_ifs with h1 h2 h2
  all_goals first
    | exact EReal.coe_lt_top _
    | exact EReal.coe_pos.mpr (by positivity)
    | exact EReal.zero_lt_top
    | exact EReal.coe_lt_coe_iff.mpr (zpow_lt_zpow_right₀ (by norm_num) (by omega))

/-- One step of the search: add `b` to the field if the larger power is not above `y`. -/
def step (y : EReal) (b f : ℕ) : ℕ := if power (f + b) ≤ y then f + b else f

/-- `f` is where the search stands with `w` fields left: the power at `f` is not above `y`, and the power at `f + w` is. -/
def At (y : EReal) (w f : ℕ) : Prop := (f = 0 ∨ power f ≤ y) ∧ (f + w = 256 ∨ (f + w < 256 ∧ y < power (f + w)))

/-- One step of the search halves the range in which the field lies. -/
theorem step_at (y : EReal) (b f : ℕ) (hb : 0 < b) (h : At y (2 * b) f) : At y b (step y b f) := by
  obtain ⟨h1, h2⟩ := h
  unfold step
  split_ifs with hc
  · refine ⟨.inr hc, ?_⟩
    rw [show f + b + b = f + 2 * b by ring]; exact h2
  · refine ⟨h1, .inr ⟨?_, not_le.mp hc⟩⟩
    rcases h2 with h | h <;> omega

/-- The field the whole search finds. -/
def field (y : EReal) : ℕ := step y 1 (step y 2 (step y 4 (step y 8 (step y 16 (step y 32 (step y 64 (step y 128 0)))))))

/-- After all eight steps the range has width one: the field found is the greatest whose power of two is at most `y`. -/
theorem field_at (y : EReal) : At y 1 (field y) := by
  have h0 : At y (2 * 128) 0 := ⟨.inl rfl, .inl rfl⟩
  have h1 := step_at y 128 _ (by norm_num) h0
  have h2 := step_at y 64 _ (by norm_num) h1
  have h3 := step_at y 32 _ (by norm_num) h2
  have h4 := step_at y 16 _ (by norm_num) h3
  have h5 := step_at y 8 _ (by norm_num) h4
  have h6 := step_at y 4 _ (by norm_num) h5
  have h7 := step_at y 2 _ (by norm_num) h6
  exact step_at y 1 _ (by norm_num) h7

/-- Below the cap `2 ^ 120` the field is at most 247. -/
theorem field_le (y : EReal) (hy : y ≤ power 247) : field y ≤ 247 := by
  obtain ⟨h1, h2⟩ := field_at y
  by_contra hc
  rcases h1 with h | h
  · omega
  · exact absurd (h.trans hy) (not_le.mpr (power_lt 247 _ (by omega) (by omega)))

/-- The next power is above `y`. -/
theorem lt_next (y : EReal) (hy : y ≤ power 247) : y < power (field y + 1) := by
  have := field_le y hy
  obtain ⟨-, h | h⟩ := field_at y
  · omega
  · exact h.2

/-- The power at a positive field is not above `y`. -/
theorem power_le (y : EReal) (h : field y ≠ 0) : power (field y) ≤ y := (field_at y).1.resolve_left h
/-- The field is zero exactly below the least normal number. -/
theorem field_zero_iff (y : EReal) (hy : y ≤ power 247) : field y = 0 ↔ y < power 1 := by
  constructor
  · intro h; simpa [h] using lt_next y hy
  · intro h
    by_contra hc
    have h1 := power_le y hc
    have := field_le y hy
    have h2 : power 1 ≤ power (field y) := by
      rcases Nat.lt_or_ge 1 (field y) with h3 | h3
      · exact (power_lt 1 _ h3 (by omega)).le
      · rw [show field y = 1 by omega]
    exact absurd (h2.trans h1) (not_le.mpr h)

/-- The quantiser's scale of a group whose maximum over 448 is `y`: one below the least normal number, else the power of two above `y`. -/
def scale (y : EReal) : EReal := if field y = 0 then power 127 else power (field y + 1)

/-- Its reciprocal. -/
def inv (y : EReal) : EReal := if field y = 0 then power 127 else power (253 - field y)

/-- The power of two with the biased exponent 127 is one. -/
theorem power_one : power 127 = 1 := by
  rw [power_eq 127 (by omega) (by omega)]; norm_num

/-- One over the scale is the reciprocal the kernel forms. -/
theorem div_scale (y : EReal) (hy : y ≤ power 247) : Ideal.div 1 (scale y) = inv y := by
  have hf := field_le y hy
  unfold scale inv
  split_ifs with h
  · rw [power_one]; simp [Ideal.div]
  · rw [power_eq (field y + 1) (by omega) (by omega), power_eq (253 - field y) (by omega) (by omega)]
    unfold Ideal.div
    rw [if_neg (by exact_mod_cast (zpow_ne_zero _ (by norm_num : (2 : ℝ) ≠ 0))), one_mul, ← EReal.coe_inv, ← zpow_neg]
    congr 2
    push_cast [Nat.cast_sub (show field y ≤ 253 by omega)]
    ring

/-- The least power above `y`, as the plain quantiser finds it among the fields from 2 to 248. -/
theorem fold_above (y : EReal) (hy : y ≤ power 247) (h : field y ≠ 0) :
    (Finset.univ : Finset (Fin 247)).fold min ⊤ (fun i => if y < power (i.val + 2) then power (i.val + 2) else ⊤) = power (field y + 1) := by
  have hf := field_le y hy
  apply le_antisymm
  · rw [Finset.fold_min_le]
    refine .inr ⟨⟨field y - 1, by omega⟩, Finset.mem_univ _, ?_⟩
    dsimp only
    rw [show field y - 1 + 2 = field y + 1 by omega, if_pos (lt_next y hy)]
  · rw [Finset.le_fold_min]
    refine ⟨le_top, fun i _ => ?_⟩
    split_ifs with hc
    · by_contra hn
      have hi := i.isLt
      have h1 : field y + 1 > i.val + 2 := by
        by_contra hge
        rcases Nat.lt_or_ge (field y + 1) (i.val + 2) with h3 | h3
        · exact hn (power_lt _ _ h3 (by omega)).le
        · exact hn (by rw [show i.val + 2 = field y + 1 by omega])
      have h2 : power (i.val + 2) ≤ power (field y) := by
        rcases Nat.lt_or_ge (i.val + 2) (field y) with h3 | h3
        · exact (power_lt _ _ h3 (by omega)).le
        · rw [show i.val + 2 = field y by omega]
      exact absurd (h2.trans (power_le y h)) (not_le.mpr hc)
    · exact le_top

/-- The word-level search is the search over numbers. -/
def bstep (y : EReal) (b f : BitVec 32) : BitVec 32 := Scalar.select (Ideal.cmp .oge y (Ideal.ofBits .f32 ((f + b) <<< 23))) (f + b) f

/-- A step of the search on 32-bit integers is the step on natural numbers. -/
theorem bstep_eq (y : EReal) (b f : ℕ) : bstep y (BitVec.ofNat 32 b) (BitVec.ofNat 32 f) = BitVec.ofNat 32 (step y b f) := by
  unfold bstep step power
  rw [← BitVec.ofNat_add]
  simp only [Ideal.cmp, Scalar.select]
  by_cases h : Ideal.ofBits .f32 (BitVec.ofNat 32 (f + b) <<< 23) ≤ y <;> simp [h]
end Cert.Quantise
end
-- ==== Proof.NormSpec.lean ====
module
public import proofs.«01_k».proof.Proof.PowerSearch
@[expose] public section
noncomputable section
namespace Cert.Quantise
open Idealize.ShloMosaic

/-- The normalised activation: the row over the root of its mean square (plus epsilon), times the norm's weight. -/
def normed (r : Fin 256 → Fin 5120 → EReal) (w : Fin 5120 → EReal) (a : Fin 256) (k : Fin 5120) : EReal :=
  r a k * Ideal.rsqrt (Ideal.div (∑ x : Fin 5120, r a x * r a x) (Ideal.ofBits .f32 1168113664#32) + Ideal.ofBits .f32 897988541#32) * w k

/-- The greatest magnitude of group `g` of row `a`. -/
def amax (r : Fin 256 → Fin 5120 → EReal) (w : Fin 5120 → EReal) (a : Fin 256) (g : Fin 40) : EReal :=
  Finset.fold max (Ideal.ofBits .f32 4286578688#32 : EReal) (fun l : Fin 128 => (FloatOps.absf (F := Ideal) (φ := .f32) (normed r w a ⟨g.val * 128 + l.val, by omega⟩) : EReal)) Finset.univ

/-- That magnitude over 448, capped at `2 ^ 120`. -/
def level (r : Fin 256 → Fin 5120 → EReal) (w : Fin 5120 → EReal) (a : Fin 256) (g : Fin 40) : EReal :=
  min (amax r w a g * Ideal.ofBits .f32 991054117#32) (Ideal.ofBits .f32 2071986176#32)

/-- The level is at most the cap. -/
theorem level_le (r : Fin 256 → Fin 5120 → EReal) (w : Fin 5120 → EReal) (a : Fin 256) (g : Fin 40) : level r w a g ≤ power 247 :=
  min_le_right _ _

/-- The scale of group `g` of row `a`. -/
def scales (r : Fin 256 → Fin 5120 → EReal) (w : Fin 5120 → EReal) (a : Fin 256) (g : Fin 40) : EReal := scale (level r w a g)

/-- The code at `(a, k)`: the normalised activation over its group's scale, clipped to the codes' range. -/
def codes (r : Fin 256 → Fin 5120 → EReal) (w : Fin 5120 → EReal) (a : Fin 256) (k : Fin 5120) : EReal :=
  min (Ideal.ofBits .f32 1138753536#32) (max (Ideal.ofBits .f32 3286237184#32) (normed r w a k * inv (level r w a ⟨k.val / 128, by omega⟩)))

/-- The activation argument by row and column. -/
abbrev mat (x : Vec Ideal ⟨2, ![256, 5120]⟩ .bf16) : Fin 256 → Fin 5120 → EReal := fun a k => x (ix2 a k)

/-- The norm weights' argument by column. -/
abbrev vec (w : Vec Ideal ⟨1, ![5120]⟩ .f32) : Fin 5120 → EReal := fun k => w (ix1 k)

/-- The array of codes: rows by columns. -/
def codeArr (x : Vec Ideal ⟨2, ![256, 5120]⟩ .bf16) (w : Vec Ideal ⟨1, ![5120]⟩ .f32) : Vec Ideal ⟨2, ![256, 5120]⟩ .fp8e4m3 :=
  fun y => codes (mat x) (vec w) (y 0) (y 1)

/-- The array of scales: batch, group, row of the batch. -/
def scaleArr (x : Vec Ideal ⟨2, ![256, 5120]⟩ .bf16) (w : Vec Ideal ⟨1, ![5120]⟩ .f32) : Vec Ideal ⟨3, ![2, 40, 128]⟩ .f32 := fun y =>
  have h0 : (y 0).val < 2 := (y 0).isLt
  have h2 : (y 2).val < 128 := (y 2).isLt
  scales (mat x) (vec w) ⟨(y 0).val * 128 + (y 2).val, by omega⟩ (y 1)
end Cert.Quantise
end
-- ==== Proof.QkvValue.lean ====
module
public import proofs.«01_k».proof.Proof.QkvPieces
public import proofs.«01_k».proof.Proof.NormSpec
@[expose] public section
noncomputable section
namespace Cert.QkvIdeal.Norm
open Cert.QkvIdeal Cert.QkvIdeal.Gen Idealize.ShloMosaic Idealize.ShloMosaic.TcCoe Idealize.SL.Sem
open Idealize.ShloMosaic.Tactic Cert.Quantise

/-- One over the root of a row's mean square, read. -/
theorem rs_apply (x0 : Vec Ideal S256x5120 .bf16) (a : Fin 256) (z : Fin 1) :
    (rs (F := Ideal) x0 (ix2 a z) : EReal) = Ideal.rsqrt (Ideal.div (∑ x : Fin 5120, (x0 (ix2 a x) : EReal) * x0 (ix2 a x)) (Ideal.ofBits .f32 1168113664#32) + Ideal.ofBits .f32 897988541#32) := by
  unfold rs k0_pay3
  pointwise

/-- A normalised group, read. -/
theorem gx_apply (r : FVec Ideal S256x1 .f32) (xb : Vec Ideal S256x128 .bf16) (nb : Vec Ideal S1x128 .f32) (a : Fin 256) (l : Fin 128) :
    (gx (F := Ideal) r xb nb (ix2 a l) : EReal) = (xb (ix2 a l) : EReal) * r (ix2 a 0) * nb (ix2 0 l) := by
  unfold gx
  pointwise

/-- A group's columns, read. -/
theorem colX_apply (x0 : Vec Ideal S256x5120 .bf16) (k : Fin 40) (a : Fin 256) (l : Fin 128) :
    (colX (F := Ideal) x0 k (ix2 a l) : EReal) = x0 (ix2 a ⟨k.val * 128 + l.val, by omega⟩) := by
  unfold colX
  pointwise

/-- A group's norm weights, read. -/
theorem colN_apply (x1 : Vec Ideal S1x5120 .f32) (k : Fin 40) (z : Fin 1) (l : Fin 128) :
    (colN (F := Ideal) x1 k (ix2 z l) : EReal) = x1 (ix2 0 ⟨k.val * 128 + l.val, by omega⟩) := by
  unfold colN
  pointwise

/-- The capped level of a group, read. -/
theorem gy_apply (x : FVec Ideal S256x128 .f32) (a : Fin 256) (l : Fin 128) :
    (gy (F := Ideal) x (ix2 a l) : EReal) = min (Finset.fold max (Ideal.ofBits .f32 4286578688#32 : EReal) (fun l : Fin 128 => (FloatOps.absf (F := Ideal) (φ := .f32) (x (ix2 a l)) : EReal)) Finset.univ * Ideal.ofBits .f32 991054117#32) (Ideal.ofBits .f32 2071986176#32) := by
  unfold gy
  pointwise

/-- One step of the search, read. -/
theorem gstep_apply (y : FVec Ideal S256x128 .f32) (b : BitVec 32) (f : IVec S256x128 32) (i : S256x128.Idx) :
    gstep (F := Ideal) y b f i = bstep (y i) b (f i) := rfl

/-- The exponent field the kernel finds is the specification's. -/
theorem gfield_apply (y : FVec Ideal S256x128 .f32) (i : S256x128.Idx) : gfield (F := Ideal) y i = BitVec.ofNat 32 (field (y i)) := by
  unfold gfield field
  rw [gstep_apply, gstep_apply, gstep_apply, gstep_apply, gstep_apply, gstep_apply, gstep_apply, gstep_apply]
  show bstep _ _ (bstep _ _ (bstep _ _ (bstep _ _ (bstep _ _ (bstep _ _ (bstep _ _ (bstep _ _ (BitVec.ofNat 32 0)))))))) = _
  rw [show (128#32) = BitVec.ofNat 32 128 from rfl, bstep_eq, bstep_eq, bstep_eq, bstep_eq, bstep_eq, bstep_eq, bstep_eq, bstep_eq]

/-- The exponent of the scale as a word. -/
def eword (f : BitVec 32) : BitVec 32 := Scalar.select (IntOp.cmpi .eq f 0#32) 0#32 (f - 126#32)

/-- The exponent word of the scale: its field is one above, or 127 where the field is zero. -/
theorem eword_scale : ∀ f : Fin 248, eword (BitVec.ofNat 32 f.val) + 127#32 = BitVec.ofNat 32 (if f.val = 0 then 127 else f.val + 1) := by
  decide +kernel

/-- The exponent word of the inverse. -/
theorem eword_inv : ∀ f : Fin 248, 127#32 - eword (BitVec.ofNat 32 f.val) = BitVec.ofNat 32 (if f.val = 0 then 127 else 253 - f.val) := by
  decide +kernel

/-- The exponents, read. -/
theorem gE_apply (x : FVec Ideal S256x128 .f32) (i : S256x128.Idx) : gE (F := Ideal) x i = eword (BitVec.ofNat 32 (field (gy x i))) := by
  rw [← gfield_apply]
  rfl

/-- The scale the kernel makes is the specification's. -/
theorem gscale_apply (x : FVec Ideal S256x128 .f32) (i : S256x128.Idx) (h : (gy (F := Ideal) x i : EReal) ≤ power 247) :
    (gscale (F := Ideal) (gE x) i : EReal) = scale (gy (F := Ideal) x i) := by
  have e : (gscale (F := Ideal) (gE x) i : EReal) = Ideal.ofBits .f32 ((gE (F := Ideal) x i + 127#32) <<< 23) := rfl
  rw [e, gE_apply, eword_scale ⟨field (gy (F := Ideal) x i), Nat.lt_succ_of_le (field_le _ h)⟩]
  unfold scale power
  split_ifs <;> rfl

/-- The inverse the kernel makes is the specification's. -/
theorem ginv_apply (x : FVec Ideal S256x128 .f32) (i : S256x128.Idx) (h : (gy (F := Ideal) x i : EReal) ≤ power 247) :
    (ginv (F := Ideal) (gE x) i : EReal) = Quantise.inv (gy (F := Ideal) x i) := by
  have e : (ginv (F := Ideal) (gE x) i : EReal) = Ideal.ofBits .f32 ((127#32 - gE (F := Ideal) x i) <<< 23) := rfl
  rw [e, gE_apply, eword_inv ⟨field (gy (F := Ideal) x i), Nat.lt_succ_of_le (field_le _ h)⟩]
  unfold Quantise.inv power
  split_ifs <;> rfl

/-- The codes of a group, read. -/
theorem gcodes_apply (x : FVec Ideal S256x128 .f32) (e : IVec S256x128 32) (i : S256x128.Idx) :
    (gcodes (F := Ideal) x e i : EReal) = min (Ideal.ofBits .f32 1138753536#32 : EReal) (max (Ideal.ofBits .f32 3286237184#32 : EReal) ((x i : EReal) * ginv (F := Ideal) e i)) := rfl

/-- The norm weights' block as a function of the column. -/
abbrev row (x1 : Vec Ideal S1x5120 .f32) : Fin 5120 → EReal := fun k => x1 (ix2 0 k)

/-- A normalised group is the specification's. -/
theorem xg_apply (x0 : Vec Ideal S256x5120 .bf16) (x1 : Vec Ideal S1x5120 .f32) (k : Fin 40) (a : Fin 256) (l : Fin 128) :
    (xg (F := Ideal) x0 x1 k (ix2 a l) : EReal) = normed (mat x0) (row x1) a ⟨k.val * 128 + l.val, by omega⟩ := by
  unfold xg normed
  rw [gx_apply, rs_apply, colX_apply, colN_apply]

/-- A group's level is the specification's. -/
theorem level_eq (x0 : Vec Ideal S256x5120 .bf16) (x1 : Vec Ideal S1x5120 .f32) (k : Fin 40) (a : Fin 256) (l : Fin 128) :
    (gy (F := Ideal) (xg x0 x1 k) (ix2 a l) : EReal) = level (mat x0) (row x1) a k := by
  rw [gy_apply]
  unfold level amax
  simp only [xg_apply]

/-- The codes are the specification's. -/
theorem XC_apply (x0 : Vec Ideal S256x5120 .bf16) (x1 : Vec Ideal S1x5120 .f32) (a : Fin 256) (k : Fin 5120) :
    (XC (F := Ideal) x0 x1 (ix2 a k) : EReal) = codes (mat x0) (row x1) a k := by
  have hk : (⟨k.val / 128 * 128 + k.val % 128, by omega⟩ : Fin 5120) = k := Fin.ext (by show k.val / 128 * 128 + k.val % 128 = k.val; omega)
  show (gcodes (F := Ideal) (xg x0 x1 ⟨k.val / 128, by omega⟩) (gE (xg x0 x1 ⟨k.val / 128, by omega⟩)) (ix2 a ⟨k.val % 128, by omega⟩) : EReal) = _
  rw [gcodes_apply, ginv_apply _ _ (by rw [level_eq]; exact level_le _ _ _ _), level_eq, xg_apply]
  unfold codes
  dsimp only
  rw [hk]

/-- The scales are the specification's. -/
theorem XS_apply (x0 : Vec Ideal S256x5120 .bf16) (x1 : Vec Ideal S1x5120 .f32) (b : Fin 2) (g : Fin 40) (s : Fin 128) :
    (XS (F := Ideal) x0 x1 (ix3 b g s) : EReal) = scales (mat x0) (row x1) ⟨b.val * 128 + s.val, by omega⟩ g := by
  show (gscale (F := Ideal) (gE (xg x0 x1 ⟨g.val, g.isLt⟩)) (ix2 ⟨b.val * 128 + s.val, by omega⟩ ⟨g.val, by omega⟩) : EReal) = _
  rw [gscale_apply _ _ (by rw [level_eq]; exact level_le _ _ _ _), level_eq]
  rfl

variable (m : (ℓ : Loc nD τ sig) → Buf (Elt Ideal) ℓ)

/-- The activation's window is at the origin at every point. -/
theorem idx0 (t : Fin cfg0.N) : win0_0.index t = ![0, 0] := (by decide +kernel : ∀ t : Fin grid0.N, win0_0.index t = ![0, 0]) t
/-- The norm weights' window is at the origin at every point. -/
theorem idx1 (t : Fin cfg0.N) : win0_1.index t = ![0, 0] := (by decide +kernel : ∀ t : Fin grid0.N, win0_1.index t = ![0, 0]) t
/-- The codes' window is at the origin at every point. -/
theorem idx6 (t : Fin cfg0.N) : win0_6.index t = ![0, 0] := (by decide +kernel : ∀ t : Fin grid0.N, win0_6.index t = ![0, 0]) t
/-- The scales' window is at the origin at every point. -/
theorem idx7 (t : Fin cfg0.N) : win0_7.index t = ![0, 0, 0] := (by decide +kernel : ∀ t : Fin grid0.N, win0_7.index t = ![0, 0, 0]) t

/-- The activation's block is the argument. -/
theorem blk0 (c : Dev nD) (t : Fin cfg0.N) (a : Fin 256) (k : Fin 5120) :
    iblk m c 0 t (ix2 a k) = m ((c : Thread nD τ).loc main_arg0) (ix2 a k) := by
  have e : ((View.whole main_arg0).slice (win0_0.rect t)).emb (ix2 a k) = ix2 a k := by blk_ext [idx0]
  show V m c main_arg0 _ = _
  rw [e]
  entry_read
  rfl

/-- The norm weights' block is the argument as one row. -/
theorem blk1 (c : Dev nD) (t : Fin cfg0.N) (z : Fin 1) (k : Fin 5120) :
    iblk m c 1 t (ix2 z k) = m ((c : Thread nD τ).loc main_arg1) (ix1 k) := by
  have e : ((View.whole main_v11).slice (win0_1.rect t)).emb (ix2 z k) = ix2 z k := by blk_ext [idx1]
  show V m c main_v11 _ = _
  rw [e]
  entry_read
  pointwise

/-- The activation's block is the argument, by row and column. -/
theorem mat_blk (c : Dev nD) (t : Fin cfg0.N) : mat (iblk m c 0 t) = mat (m ((c : Thread nD τ).loc main_arg0)) := funext fun a => funext fun k => blk0 m c t a k
/-- The norm weights' block is the argument, by column. -/
theorem row_blk (c : Dev nD) (t : Fin cfg0.N) : row (iblk m c 1 t) = vec (m ((c : Thread nD τ).loc main_arg1)) := funext fun k => blk1 m c t 0 k

/-- The block of codes, at the index the block is placed at. -/
theorem tile6 (c : Dev nD) (t : Fin cfg0.N) (y : S256x5120.Idx) :
    XC (F := Ideal) (iblk m c 0 first0) (iblk m c 1 first0) y
      = codeArr (m ((c : Thread nD τ).loc main_arg0)) (m ((c : Thread nD τ).loc main_arg1)) ((win0_6.blk t).view.emb y) := by
  have e : (win0_6.blk t).view.emb y = y := by blk_ext [idx6]
  rw [e]
  obtain ⟨a, k, rfl⟩ : ∃ (a : Fin 256) (k : Fin 5120), y = ix2 a k := ⟨y 0, y 1, by blk_ext⟩
  exact (XC_apply _ _ a k).trans (by rw [mat_blk, row_blk]; rfl)

/-- The block of scales, at the index the block is placed at. -/
theorem tile7 (c : Dev nD) (t : Fin cfg0.N) (y : S2x40x128.Idx) :
    XS (F := Ideal) (iblk m c 0 first0) (iblk m c 1 first0) y
      = scaleArr (m ((c : Thread nD τ).loc main_arg0)) (m ((c : Thread nD τ).loc main_arg1)) ((win0_7.blk t).view.emb y) := by
  have e : (win0_7.blk t).view.emb y = y := by blk_ext [idx7]
  rw [e]
  obtain ⟨b, g, s, rfl⟩ : ∃ (b : Fin 2) (g : Fin 40) (s : Fin 128), y = ix3 b g s := ⟨y 0, y 1, y 2, by blk_ext⟩
  exact (XS_apply _ _ b g s).trans (by rw [mat_blk, row_blk]; rfl)

/-- The array of codes the kernel leaves is the specification's. -/
theorem value_codes (c : Dev nD) : (dats m 0 c).arrAt 6 cfg0.N = codeArr (m ((c : Thread nD τ).loc main_arg0)) (m ((c : Thread nD τ).loc main_arg1)) := by
  refine (dats m 0 c).arrAt_eq_of_covers 6 _ (by decide +kernel) fun t hf y => ?_
  blk_simp
  rw [after0_6, leftCodes_eq]
  exact tile6 m c t y

/-- The array of scales the kernel leaves is the specification's. -/
theorem value_scales (c : Dev nD) : (dats m 0 c).arrAt 7 cfg0.N = scaleArr (m ((c : Thread nD τ).loc main_arg0)) (m ((c : Thread nD τ).loc main_arg1)) := by
  refine (dats m 0 c).arrAt_eq_of_covers 7 _ (by decide +kernel) fun t hf y => ?_
  blk_simp
  rw [after0_7, leftScales_eq]
  exact tile7 m c t y

/-- Every run of the kernel ends with the specification's codes and scales in its two results, and its arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v13_0) = codeArr (m ((c : Thread nD τ).loc main_arg0)) (m ((c : Thread nD τ).loc main_arg1))
      ∧ r.2.mem ((c.tc : Thread nD τ).loc main_v13_1) = scaleArr (m ((c : Thread nD τ).loc main_arg0)) (m ((c : Thread nD τ).loc main_arg1))) :=
  (θ_run defs _ _).mono (fun _ h c =>
    ⟨(((dats m 0 c).toRForget_arrAt_iff (fgt := forgets0) rfl _ _).mp ((h c).1 6)).trans (value_codes m c),
     (((dats m 0 c).toRForget_arrAt_iff (fgt := forgets0) rfl _ _).mp ((h c).1 7)).trans (value_scales m c)⟩) (run_main m ρ)
end Cert.QkvIdeal.Norm
end
-- ==== Proof.NormPay.lean ====
module
public import proofs.«01_k».proof.Proof.Gen.NormIdeal.Frame
public import Idealize.ShloMosaic.Lib.Pointwise
public import Idealize.ShloMosaic.Lib.Pipeline.ValueKit
public import Idealize.ShloMosaic.Lib.Claim
@[expose] public section
noncomputable section
namespace Cert.NormIdeal.Norm
open Cert.NormIdeal Cert.NormIdeal.Gen Idealize.ShloMosaic Idealize.ShloMosaic.TcCoe Idealize.SL.Sem
open Idealize.ShloMosaic.Tactic

/-- The normalised activation of the reference body, at an index. -/
theorem pay4_apply (v0 : Vec Ideal S256x5120 .bf16) (v12 : Vec Ideal S1x5120 .f32) (a : Fin 256) (g : Fin 40) (l : Fin 128) :
    k0_pay4 v0 v12 (ix3 a g l) = (v0 (ix2 a ⟨g.val * 128 + l.val, by omega⟩) : EReal) *
        Ideal.rsqrt (Ideal.div (∑ x : Fin 5120, (v0 (ix2 a x) : EReal) * v0 (ix2 a x)) (Ideal.ofBits .f32 1168113664#32) + Ideal.ofBits .f32 897988541#32)
        * v12 (ix2 0 ⟨g.val * 128 + l.val, by omega⟩) := by
  unfold k0_pay4
  pointwise

/-- The greatest magnitude of a group over 448, capped, in the reference body's terms. -/
def lev (v0 : Vec Ideal S256x5120 .bf16) (v12 : Vec Ideal S1x5120 .f32) (a : Fin 256) (g : Fin 40) : EReal :=
  min (Finset.fold max (Ideal.ofBits .f32 4286578688#32 : EReal) (fun x : Fin 128 => (FloatOps.absf (F := Ideal) (φ := .f32) (k0_pay4 v0 v12 (ix3 a g x)) : EReal)) Finset.univ * Ideal.ofBits .f32 991054117#32) (Ideal.ofBits .f32 2071986176#32)

/-- The scale of the reference body: one below the least normal number, else the least power of two above the level. -/
theorem pay5_apply (v0 : Vec Ideal S256x5120 .bf16) (v12 : Vec Ideal S1x5120 .f32) (a : Fin 256) (g : Fin 40) :
    (k0_pay5 v0 v12 (ix2 a g) : EReal) = if lev v0 v12 a g < Ideal.ofBits .f32 8388608#32 then 1
      else Finset.fold min (Ideal.ofBits .f32 2139095040#32 : EReal) (fun x : Fin 247 => if lev v0 v12 a g < (FloatOps.exp2 (F := Ideal) (φ := .f32) (FloatOps.sitofp .f32 (IntOp.subi (BitVec.ofNat 32 x.val) 125#32)) : EReal) then (FloatOps.exp2 (F := Ideal) (φ := .f32) (FloatOps.sitofp .f32 (IntOp.subi (BitVec.ofNat 32 x.val) 125#32)) : EReal) else Ideal.ofBits .f32 2139095040#32) Finset.univ := by
  unfold k0_pay5 lev
  pointwise

/-- The codes of the reference body, at an index. -/
theorem pay1_apply (v0 : Vec Ideal S256x40x128 .f32) (v12 : Vec Ideal S256x40x1 .f32) (a : Fin 256) (g : Fin 5120) :
    (k0_pay1 (F := Ideal) v0 v12 (ix2 a g) : EReal) = min (Ideal.ofBits .f32 1138753536#32 : EReal) (max (Ideal.ofBits .f32 3286237184#32 : EReal)
      ((v0 (ix3 a ⟨g.val / 128, by omega⟩ ⟨g.val % 128, by omega⟩) : EReal) * v12 (ix3 a ⟨g.val / 128, by omega⟩ 0))) := by
  unfold k0_pay1
  pointwise

/-- Batch 0 of the scales of the reference body. -/
theorem pay2_apply (v0 : Vec Ideal S256x40 .f32) (z : Fin 1) (g : Fin 40) (s : Fin 128) :
    (k0_pay2 (F := Ideal) v0 (ix3 z g s) : EReal) = v0 (ix2 ⟨s.val, by omega⟩ g) := by
  unfold k0_pay2
  pointwise

/-- Batch 1 of the scales of the reference body. -/
theorem pay3_apply (v0 : Vec Ideal S256x40 .f32) (z : Fin 1) (g : Fin 40) (s : Fin 128) :
    (k0_pay3 (F := Ideal) v0 (ix3 z g s) : EReal) = v0 (ix2 ⟨128 + s.val, by omega⟩ g) := by
  unfold k0_pay3
  pointwise

/-- One over the scale of the reference body. -/
theorem pay6_apply (v0 : Vec Ideal S256x5120 .bf16) (v12 : Vec Ideal S1x5120 .f32) (a : Fin 256) (g : Fin 40) (z : Fin 1) :
    (k0_pay6 v0 v12 (ix3 a g z) : EReal) = Ideal.div 1 (k0_pay5 v0 v12 (ix2 a g)) := by
  unfold k0_pay6
  pointwise
end Cert.NormIdeal.Norm
end
-- ==== Proof.NormValue.lean ====
module
public import proofs.«01_k».proof.Proof.NormPay
public import proofs.«01_k».proof.Proof.NormSpec
public import Idealize.ShloMosaic.Lib.Pipeline.ReadBack
@[expose] public section
set_option maxRecDepth 16384
noncomputable section
namespace Cert.NormIdeal.Norm
open Cert.NormIdeal Cert.NormIdeal.Gen Idealize.ShloMosaic Idealize.ShloMosaic.TcCoe Idealize.SL.Sem
open Idealize.ShloMosaic.Tactic Cert.Quantise

/-- Subtracting 125 from a small number, read as a signed number. -/
theorem sub_toInt : ∀ i : Fin 247, (IntOp.subi (BitVec.ofNat 32 i.val) 125#32).toInt = (i.val : ℤ) - 125 := by
  decide +kernel

/-- The reference's `i`-th power of two is the one of exponent field `i + 2`. -/
theorem exp2_power (i : Fin 247) :
    (FloatOps.exp2 (F := Ideal) (φ := .f32) (FloatOps.sitofp .f32 (IntOp.subi (BitVec.ofNat 32 i.val) 125#32)) : EReal) = power (i.val + 2) := by
  have hi := i.isLt
  show Ideal.exp2 (((IntOp.subi (BitVec.ofNat 32 i.val) 125#32).toInt : ℝ) : EReal) = _
  rw [sub_toInt, Ideal.exp2_coe, power_eq (i.val + 2) (by omega) (by omega)]
  congr 1
  show (2 : ℝ) ^ ((((i.val : ℤ) - 125 : ℤ)) : ℝ) = _
  rw [Real.rpow_intCast]
  congr 1
  push_cast
  ring

/-- The least normal number has exponent field 1. -/
theorem least_normal : (Ideal.ofBits .f32 8388608#32 : EReal) = power 1 := rfl

/-- The largest exponent field is infinity's. -/
theorem infinity : (Ideal.ofBits .f32 2139095040#32 : EReal) = ⊤ := by
  have e : (Ideal.ofBits .f32 2139095040#32 : EReal) = power 255 := rfl
  rw [e, power_eq_ite 255 (by omega), if_pos rfl]

/-- The reference's search over the powers of two finds the scale. -/
theorem search (y : EReal) (hy : y ≤ power 247) :
    (if y < Ideal.ofBits .f32 8388608#32 then 1
      else Finset.fold min (Ideal.ofBits .f32 2139095040#32 : EReal) (fun x : Fin 247 => if y < (FloatOps.exp2 (F := Ideal) (φ := .f32) (FloatOps.sitofp .f32 (IntOp.subi (BitVec.ofNat 32 x.val) 125#32)) : EReal) then (FloatOps.exp2 (F := Ideal) (φ := .f32) (FloatOps.sitofp .f32 (IntOp.subi (BitVec.ofNat 32 x.val) 125#32)) : EReal) else Ideal.ofBits .f32 2139095040#32) Finset.univ) = scale y := by
  simp only [exp2_power, least_normal, infinity]
  unfold scale
  by_cases h : y < power 1
  · rw [if_pos h, if_pos ((field_zero_iff y hy).mpr h), power_one]
  · have hf : field y ≠ 0 := fun hz => h ((field_zero_iff y hy).mp hz)
    rw [if_neg h, if_neg hf, fold_above y hy hf]

/-- The norm weights' block as a function of the column. -/
abbrev row (x1 : Vec Ideal S1x5120 .f32) : Fin 5120 → EReal := fun k => x1 (ix2 0 k)

/-- The normalised activation of the reference body is the specification's. -/
theorem normed_eq (x0 : Vec Ideal S256x5120 .bf16) (x1 : Vec Ideal S1x5120 .f32) (a : Fin 256) (g : Fin 40) (l : Fin 128) :
    (k0_pay4 x0 x1 (ix3 a g l) : EReal) = normed (mat x0) (row x1) a ⟨g.val * 128 + l.val, by omega⟩ := pay4_apply x0 x1 a g l

/-- The level of the reference body is the specification's. -/
theorem lev_eq (x0 : Vec Ideal S256x5120 .bf16) (x1 : Vec Ideal S1x5120 .f32) (a : Fin 256) (g : Fin 40) :
    lev x0 x1 a g = level (mat x0) (row x1) a g := by
  unfold lev level amax
  simp only [normed_eq]

/-- The scale of the reference body is the specification's. -/
theorem scale_eq (x0 : Vec Ideal S256x5120 .bf16) (x1 : Vec Ideal S1x5120 .f32) (a : Fin 256) (g : Fin 40) :
    (k0_pay5 x0 x1 (ix2 a g) : EReal) = scales (mat x0) (row x1) a g := by
  rw [pay5_apply, lev_eq]
  exact search _ (level_le _ _ _ _)

/-- The codes of the reference body are the specification's. -/
theorem codes_eq (x0 : Vec Ideal S256x5120 .bf16) (x1 : Vec Ideal S1x5120 .f32) (a : Fin 256) (k : Fin 5120) :
    (k0_pay1 (F := Ideal) (k0_pay4 x0 x1) (k0_pay6 x0 x1) (ix2 a k) : EReal) = codes (mat x0) (row x1) a k := by
  have hk : (⟨k.val / 128 * 128 + k.val % 128, by omega⟩ : Fin 5120) = k := Fin.ext (by show k.val / 128 * 128 + k.val % 128 = k.val; omega)
  rw [pay1_apply, normed_eq, pay6_apply, scale_eq]
  unfold scales
  rw [div_scale _ (level_le _ _ _ _)]
  unfold codes
  dsimp only
  rw [hk]

variable (m : (ℓ : Loc nD τ sig) → Buf (Elt Ideal) ℓ)

/-- The activation's window is at the origin. -/
theorem idx0 (t : Fin cfg0.N) : win0_0.index t = ![0, 0] := (by decide +kernel : ∀ t : Fin grid0.N, win0_0.index t = ![0, 0]) t
/-- The norm weights' window is at the origin. -/
theorem idx1 (t : Fin cfg0.N) : win0_1.index t = ![0, 0] := (by decide +kernel : ∀ t : Fin grid0.N, win0_1.index t = ![0, 0]) t
/-- The codes' window is at the origin. -/
theorem idx2 (t : Fin cfg0.N) : win0_2.index t = ![0, 0] := (by decide +kernel : ∀ t : Fin grid0.N, win0_2.index t = ![0, 0]) t
/-- The scales' window is at the origin. -/
theorem idx3 (t : Fin cfg0.N) : win0_3.index t = ![0, 0, 0] := (by decide +kernel : ∀ t : Fin grid0.N, win0_3.index t = ![0, 0, 0]) t

/-- The activation's block is the argument. -/
theorem blk0 (c : Dev nD) (t : Fin cfg0.N) (a : Fin 256) (k : Fin 5120) :
    iblk m c 0 t (ix2 a k) = m ((c : Thread nD τ).loc main_arg0) (ix2 a k) := by
  have e : ((View.whole main_arg0).slice (win0_0.rect t)).emb (ix2 a k) = ix2 a k := by blk_ext [idx0]
  show V m c main_arg0 _ = _
  rw [e]
  entry_read
  rfl

/-- The norm weights' block is the argument as one row. -/
theorem blk1 (c : Dev nD) (t : Fin cfg0.N) (z : Fin 1) (k : Fin 5120) :
    iblk m c 1 t (ix2 z k) = m ((c : Thread nD τ).loc main_arg1) (ix1 k) := by
  have e : ((View.whole main_v0).slice (win0_1.rect t)).emb (ix2 z k) = ix2 z k := by blk_ext [idx1]
  show V m c main_v0 _ = _
  rw [e]
  entry_read
  pointwise

/-- The activation's block is the argument, by row and column. -/
theorem mat_blk (c : Dev nD) (t : Fin cfg0.N) : mat (iblk m c 0 t) = mat (m ((c : Thread nD τ).loc main_arg0)) := funext fun a => funext fun k => blk0 m c t a k
/-- The norm weights' block is the argument, by column. -/
theorem row_blk (c : Dev nD) (t : Fin cfg0.N) : row (iblk m c 1 t) = vec (m ((c : Thread nD τ).loc main_arg1)) := funext fun k => blk1 m c t 0 k

/-- The reference body stores its codes into its first output. -/
theorem out2_eq (x0 : Vec Ideal S256x5120 .bf16) (x1 : Vec Ideal S1x5120 .f32) : out0_2 x0 x1 = k0_pay1 (k0_pay4 x0 x1) (k0_pay6 x0 x1) := by
  frame_out

/-- The specification's scales of a block as an array: batch, group, row of the batch. -/
def blockScales (x0 : Vec Ideal S256x5120 .bf16) (x1 : Vec Ideal S1x5120 .f32) : Vec Ideal S2x40x128 .f32 := fun y =>
  have h0 : (y 0).val < 2 := (y 0).isLt
  have h2 : (y 2).val < 128 := (y 2).isLt
  scales (mat x0) (row x1) ⟨(y 0).val * 128 + (y 2).val, by omega⟩ (y 1)

/-- Batch 0 of the reference body's scales is a slice of the block's. -/
theorem batch0 (x0 : Vec Ideal S256x5120 .bf16) (x1 : Vec Ideal S1x5120 .f32) :
    k0_pay2 (F := Ideal) (k0_pay5 x0 x1) = View.ld (Val := Elt Ideal) (e' := .f32) (blockScales x0 x1) r0_2 := by
  funext y
  obtain ⟨z, g, s, rfl⟩ : ∃ (z : Fin 1) (g : Fin 40) (s : Fin 128), y = ix3 z g s := ⟨y 0, y 1, y 2, by blk_ext⟩
  refine (pay2_apply _ z g s).trans ((scale_eq x0 x1 _ g).trans ?_)
  have e : View.ld (Val := Elt Ideal) (e' := .f32) (blockScales x0 x1) r0_2 (ix3 z g s) = blockScales x0 x1 (ix3 0 g s) := by
    pointwise
  rw [e]
  unfold blockScales
  dsimp only
  congr 1
  apply Fin.ext
  show s.val = 0 * 128 + s.val
  omega

/-- Batch 1 of the reference body's scales is a slice of the block's. -/
theorem batch1 (x0 : Vec Ideal S256x5120 .bf16) (x1 : Vec Ideal S1x5120 .f32) :
    k0_pay3 (F := Ideal) (k0_pay5 x0 x1) = View.ld (Val := Elt Ideal) (e' := .f32) (blockScales x0 x1) r0_3 := by
  funext y
  obtain ⟨z, g, s, rfl⟩ : ∃ (z : Fin 1) (g : Fin 40) (s : Fin 128), y = ix3 z g s := ⟨y 0, y 1, y 2, by blk_ext⟩
  refine (pay3_apply _ z g s).trans ((scale_eq x0 x1 _ g).trans ?_)
  have e : View.ld (Val := Elt Ideal) (e' := .f32) (blockScales x0 x1) r0_3 (ix3 z g s) = blockScales x0 x1 (ix3 1 g s) := by
    pointwise
  rw [e]
  unfold blockScales
  dsimp only
  congr 1

/-- The reference body's two stores of scales are slices of the block's scales. -/
theorem pieces3 (x0 : Vec Ideal S256x5120 .bf16) (x1 : Vec Ideal S1x5120 .f32) :
    View.PiecesOf (Val := Elt Ideal) (e := .f32) (blockScales x0 x1) [⟨r0_3, k0_pay3 (F := Ideal) (k0_pay5 x0 x1)⟩, ⟨r0_2, k0_pay2 (F := Ideal) (k0_pay5 x0 x1)⟩] :=
  by
  generalize hv : k0_pay5 x0 x1 = v
  have h1 := batch1 x0 x1
  have h0 := batch0 x0 x1
  rw [hv] at h1 h0
  generalize blockScales x0 x1 = G at h1 h0 ⊢
  generalize k0_pay3 (F := Ideal) v = p3 at h1 ⊢
  generalize k0_pay2 (F := Ideal) v = p2 at h0 ⊢
  exact ⟨fun x => congrFun h1 x, fun x => congrFun h0 x, trivial⟩

/-- The reference body's second output is the block's scales. -/
theorem out3_eq (x0 : Vec Ideal S256x5120 .bf16) (x1 : Vec Ideal S1x5120 .f32) : out0_3 x0 x1 = blockScales x0 x1 :=
  by
  unfold_out out0_3
  have e0 : View.ld x0 r0_0 = x0 := View.ld_unit_zero (by funext a; match a with | 0 => rfl | 1 => rfl) _ x0
  have e1 : View.ld x1 r0_1 = x1 := View.ld_unit_zero (by funext a; match a with | 0 => rfl | 1 => rfl) _ x1
  rw [e0, e1]
  exact funext fun y => View.canon_apply_of_pieces _ _ (pieces3 x0 x1).mem y (cover0_3 _ _ y)

/-- The reference's block of codes, at the index the block is placed at. -/
theorem tile2 (c : Dev nD) (t : Fin cfg0.N) (y : S256x5120.Idx) :
    k0_pay1 (F := Ideal) (k0_pay4 (iblk m c 0 t) (iblk m c 1 t)) (k0_pay6 (iblk m c 0 t) (iblk m c 1 t)) y
      = codeArr (m ((c : Thread nD τ).loc main_arg0)) (m ((c : Thread nD τ).loc main_arg1)) ((win0_2.blk t).view.emb y) := by
  have e : (win0_2.blk t).view.emb y = y := by blk_ext [idx2]
  rw [e]
  obtain ⟨a, k, rfl⟩ : ∃ (a : Fin 256) (k : Fin 5120), y = ix2 a k := ⟨y 0, y 1, by blk_ext⟩
  exact (codes_eq _ _ a k).trans (by rw [mat_blk, row_blk]; rfl)

/-- The reference's block of scales, at the index the block is placed at. -/
theorem tile3 (c : Dev nD) (t : Fin cfg0.N) (y : S2x40x128.Idx) :
    blockScales (iblk m c 0 t) (iblk m c 1 t) y
      = scaleArr (m ((c : Thread nD τ).loc main_arg0)) (m ((c : Thread nD τ).loc main_arg1)) ((win0_3.blk t).view.emb y) := by
  have e : (win0_3.blk t).view.emb y = y := by blk_ext [idx3]
  rw [e]
  unfold blockScales
  rw [mat_blk, row_blk]
  rfl

/-- The array of codes the reference leaves is the specification's. -/
theorem value_codes (c : Dev nD) : (dats m 0 c).arrAt 2 cfg0.N = codeArr (m ((c : Thread nD τ).loc main_arg0)) (m ((c : Thread nD τ).loc main_arg1)) := by
  refine (dats m 0 c).arrAt_eq_of_covers 2 _ (by decide +kernel) fun t hf y => ?_
  blk_simp
  rw [after0_2, out2_eq]
  exact tile2 m c t y

/-- The array of scales the reference leaves is the specification's. -/
theorem value_scales (c : Dev nD) : (dats m 0 c).arrAt 3 cfg0.N = scaleArr (m ((c : Thread nD τ).loc main_arg0)) (m ((c : Thread nD τ).loc main_arg1)) := by
  refine (dats m 0 c).arrAt_eq_of_covers 3 _ (by decide +kernel) fun t hf y => ?_
  blk_simp
  rw [after0_3, out3_eq]
  exact tile3 m c t y

/-- Every run of the reference ends with the specification's codes and scales in its two results. -/
theorem run (ρ : Dev nD → PrngReg) : θ_run defs (onTc (τ := τ) (main (F := Ideal))) ⟨m, fun _ => 0, ρ⟩ (fun r => ∀ c : Dev nD,
      r.2.mem ((c.tc : Thread nD τ).loc main_v1_0) = codeArr (m ((c : Thread nD τ).loc main_arg0)) (m ((c : Thread nD τ).loc main_arg1))
      ∧ r.2.mem ((c.tc : Thread nD τ).loc main_v1_1) = scaleArr (m ((c : Thread nD τ).loc main_arg0)) (m ((c : Thread nD τ).loc main_arg1))) :=
  (θ_run defs _ _).mono (fun _ h c => ⟨((h c).1 2).trans (value_codes m c), ((h c).1 3).trans (value_scales m c)⟩) (run_main m ρ)
end Cert.NormIdeal.Norm
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.KernelValue
public import proofs.«01_k».proof.Proof.RefValue
public import proofs.«01_k».proof.Proof.FloatFrame
public import proofs.«01_k».proof.Proof.QkvValue
public import proofs.«01_k».proof.Proof.NormValue
public import Idealize.ShloMosaic.Adequacy
public import Idealize.ShloMosaic.Init

@[expose] public section

noncomputable section

namespace Cert.Proof

open Idealize.ShloMosaic Idealize.SL.Sem Cert.Kernel

/-- The first call and its reference: over the extended reals both results are `Cert.Down.down` of the five arguments. -/
theorem down_agrees : Cert.algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Value.G5 m c, Cert.KernelIdeal.Value.run (F := Ideal) m g, ?_⟩
  refine (θ_run (Cert.ReferenceIdeal.defs (F := Ideal)) _ _).mono (fun r h c => ?_) (Cert.ReferenceIdeal.Value.run_blocks (F := Ideal) m' g')
  obtain ⟨hv, h0, h1, h2, h3, h4⟩ := h c
  refine ⟨hv.trans ?_, h0, h1, h2, h3, h4⟩
  refine (Cert.ReferenceIdeal.Down.value m' c).trans ?_
  rw [(hargs c).1, (hargs c).2.1, (hargs c).2.2.1, (hargs c).2.2.2.1, (hargs c).2.2.2.2]
  exact (Cert.KernelIdeal.Down.value m c).symm

/-- The second call and its reference: over the extended reals the codes of both are `Cert.Quantise.codeArr`, and the scales of both
`Cert.Quantise.scaleArr`, of the residual stream and the norm's weights. -/
theorem norm_agrees : Cert.algebraic_QkvIdeal_NormIdeal (hQkvIdeal := Cert.QkvIdeal.Gen.facts) (hNormIdeal := Cert.NormIdeal.Gen.facts) := by
  intro m g m' g' _ hargs
  refine ⟨_, _, (θ_run (Cert.QkvIdeal.defs (F := Ideal)) _ _).mono (fun r h c => ⟨(h.1 c).1, (h.1 c).2, h.2 c⟩)
    (θ_run_and (Cert.QkvIdeal.Norm.run m g) (Cert.QkvIdeal.Gen.unchanged m g)), ?_⟩
  refine (θ_run (Cert.NormIdeal.defs (F := Ideal)) _ _).mono (fun r h c => ⟨(h.1 c).1.trans ?_, (h.1 c).2.trans ?_, h.2.1 c⟩)
    (θ_run_and (Cert.NormIdeal.Norm.run m' g') (Cert.NormIdeal.Gen.frame m' g'))
  · rw [(hargs c).1, (hargs c).2.1]
  · rw [(hargs c).1, (hargs c).2.1]

/-- All the programs run to completion with their arguments unchanged, and each call agrees with its reference. -/
theorem claim : Cert.Claim :=
  ⟨Cert.Kernel.Gen.facts, Cert.KernelIdeal.Gen.facts, Cert.ReferenceIdeal.Gen.facts, Cert.Qkv.Gen.facts, Cert.QkvIdeal.Gen.facts, Cert.NormIdeal.Gen.facts,
    fun m ρ _ => Cert.Kernel.Gen.frame m ρ, fun m ρ _ => Cert.KernelIdeal.Gen.frame m ρ, fun m ρ _ => Cert.ReferenceIdeal.Gen.frame m ρ,
    fun m ρ _ => Cert.Qkv.Gen.frame m ρ, fun m ρ _ => Cert.QkvIdeal.Gen.frame m ρ, fun m ρ _ => Cert.NormIdeal.Gen.frame m ρ,
    trivial, down_agrees, trivial, norm_agrees⟩

end Cert.Proof

end
